-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x5120 : Shape := ⟨3, ![2, 512, 5120]⟩
abbrev S2560x5120 : Shape := ⟨2, ![2560, 5120]⟩
abbrev S80x5120 : Shape := ⟨2, ![80, 5120]⟩
abbrev S5120x16 : Shape := ⟨2, ![5120, 16]⟩
abbrev S16x5120 : Shape := ⟨2, ![16, 5120]⟩
abbrev S16 : Shape := ⟨1, ![16]⟩
abbrev S16x1 : Shape := ⟨2, ![16, 1]⟩
abbrev S16x128 : Shape := ⟨2, ![16, 128]⟩
abbrev S1024x5120 : Shape := ⟨2, ![1024, 5120]⟩
abbrev S2560x512 : Shape := ⟨2, ![2560, 512]⟩
abbrev S80x512 : Shape := ⟨2, ![80, 512]⟩
abbrev S16x512 : Shape := ⟨2, ![16, 512]⟩
abbrev S1024x512 : Shape := ⟨2, ![1024, 512]⟩
abbrev S1024x16 : Shape := ⟨2, ![1024, 16]⟩
abbrev S1x128 : Shape := ⟨2, ![1, 128]⟩
abbrev S64x128 : Shape := ⟨2, ![64, 128]⟩
abbrev S16x128x1 : Shape := ⟨3, ![16, 128, 1]⟩
abbrev S64x512 : Shape := ⟨2, ![64, 512]⟩
abbrev S256x512 : Shape := ⟨2, ![256, 512]⟩
abbrev S1024x256 : Shape := ⟨2, ![1024, 256]⟩

abbrev nBuf : Space → Nat
  | .hbm => 12
  | .vmem => 12
  | .smem => 0
  | _ => 0

abbrev bufTy : (tb : Table) → Fin (tcTables nBuf tb) → BufTy
  | .hbm, ⟨0, _⟩ => ⟨S2x512x5120, .bf16⟩
  | .hbm, ⟨1, _⟩ => ⟨S2560x5120, .i8⟩
  | .hbm, ⟨2, _⟩ => ⟨S80x5120, .f32⟩
  | .hbm, ⟨3, _⟩ => ⟨S5120x16, .bf16⟩
  | .hbm, ⟨4, _⟩ => ⟨S16x5120, .bf16⟩
  | .hbm, ⟨5, _⟩ => ⟨S16, .f32⟩
  | .hbm, ⟨6, _⟩ => ⟨S16, .bf16⟩
  | .hbm, ⟨7, _⟩ => ⟨S16x1, .bf16⟩
  | .hbm, ⟨8, _⟩ => ⟨S16x128, .bf16⟩
  | .hbm, ⟨9, _⟩ => ⟨S1024x5120, .bf16⟩
  | .hbm, ⟨10, _⟩ => ⟨S1024x5120, .bf16⟩
  | .hbm, ⟨11, _⟩ => ⟨S2x512x5120, .bf16⟩
  | .local _ .vmem, ⟨0, _⟩ => ⟨S1024x5120, .bf16⟩
  | .local _ .vmem, ⟨1, _⟩ => ⟨S2560x512, .i8⟩
  | .local _ .vmem, ⟨2, _⟩ => ⟨S2560x512, .i8⟩
  | .local _ .vmem, ⟨3, _⟩ => ⟨S80x512, .f32⟩
  | .local _ .vmem, ⟨4, _⟩ => ⟨S80x512, .f32⟩
  | .local _ .vmem, ⟨5, _⟩ => ⟨S5120x16, .bf16⟩
  | .local _ .vmem, ⟨6, _⟩ => ⟨S16x512, .bf16⟩
  | .local _ .vmem, ⟨7, _⟩ => ⟨S16x512, .bf16⟩
  | .local _ .vmem, ⟨8, _⟩ => ⟨S16x128, .bf16⟩
  | .local _ .vmem, ⟨9, _⟩ => ⟨S1024x512, .bf16⟩
  | .local _ .vmem, ⟨10, _⟩ => ⟨S1024x512, .bf16⟩
  | .local _ .vmem, ⟨11, _⟩ => ⟨S1024x16, .bf16⟩
  | _, _ => ⟨S2x512x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5120x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x512x5120 : Shape := ⟨3, ![2, 512, 5120]⟩
abbrev S2560x5120 : Shape := ⟨2, ![2560, 5120]⟩
abbrev S80x5120 : Shape := ⟨2, ![80, 5120]⟩
abbrev S5120x16 : Shape := ⟨2, ![5120, 16]⟩
abbrev S16x5120 : Shape := ⟨2, ![16, 5120]⟩
abbrev S16 : Shape := ⟨1, ![16]⟩
abbrev S_ : Shape := ⟨0, ![]⟩
abbrev S40x5120 : Shape := ⟨2, ![40, 5120]⟩
abbrev S1 : Shape := ⟨1, ![1]⟩
abbrev S40x64x5120 : Shape := ⟨3, ![40, 64, 5120]⟩
abbrev S40x1x5120 : Shape := ⟨3, ![40, 1, 5120]⟩
abbrev S2x512x2560 : Shape := ⟨3, ![2, 512, 2560]⟩
abbrev S2x512x16 : Shape := ⟨3, ![2, 512, 16]⟩

abbrev nBuf : Space → Nat
  | .hbm => 249
  | .vmem => 0
  | .smem => 0
  | _ => 0

abbrev hbmTy0_0 (i : Nat) : BufTy := match i % 128 with
  | 0 => ⟨S2x512x5120, .bf16⟩
  | 1 => ⟨S2560x5120, .i8⟩
  | 2 => ⟨S80x5120, .f32⟩
  | 3 => ⟨S5120x16, .bf16⟩
  | 4 => ⟨S16x5120, .bf16⟩
  | 5 => ⟨S16, .f32⟩
  | 6 => ⟨S16, .f32⟩
  | 7 => ⟨S2560x5120, .i32⟩
  | 8 => ⟨S_, .i32⟩
  | 9 => ⟨S2560x5120, .i32⟩
  | 10 => ⟨S2560x5120, .i32⟩
  | 11 => ⟨S_, .i32⟩
  | 12 => ⟨S2560x5120, .i32⟩
  | 13 => ⟨S2560x5120, .i32⟩
  | 14 => ⟨S40x5120, .f32⟩
  | 15 => ⟨S_, .i32⟩
  | 16 => ⟨S2560x5120, .i32⟩
  | 17 => ⟨S2560x5120, .i32⟩
  | 18 => ⟨S_, .i32⟩
  | 19 => ⟨S2560x5120, .i32⟩
  | 20 => ⟨S2560x5120, .i32⟩
  | 21 => ⟨S_, .i32⟩
  | 22 => ⟨S2560x5120, .i32⟩
  | 23 => ⟨S2560x5120, .i1⟩
  | 24 => ⟨S2560x5120, .i1⟩
  | 25 => ⟨S_, .i32⟩
  | 26 => ⟨S2560x5120, .i32⟩
  | 27 => ⟨S2560x5120, .i32⟩
  | 28 => ⟨S_, .i32⟩
  | 29 => ⟨S2560x5120, .i32⟩
  | 30 => ⟨S2560x5120, .i32⟩
  | 31 => ⟨S_, .i32⟩
  | 32 => ⟨S2560x5120, .i32⟩
  | 33 => ⟨S2560x5120, .i1⟩
  | 34 => ⟨S2560x5120, .i1⟩
  | 35 => ⟨S_, .i32⟩
  | 36 => ⟨S2560x5120, .i32⟩
  | 37 => ⟨S2560x5120, .i32⟩
  | 38 => ⟨S_, .i32⟩
  | 39 => ⟨S2560x5120, .i32⟩
  | 40 => ⟨S2560x5120, .i32⟩
  | 41 => ⟨S_, .i32⟩
  | 42 => ⟨S2560x5120, .i32⟩
  | 43 => ⟨S2560x5120, .i1⟩
  | 44 => ⟨S2560x5120, .i1⟩
  | 45 => ⟨S_, .i32⟩
  | 46 => ⟨S2560x5120, .i32⟩
  | 47 => ⟨S2560x5120, .i32⟩
  | 48 => ⟨S_, .i32⟩
  | 49 => ⟨S2560x5120, .i32⟩
  | 50 => ⟨S2560x5120, .i32⟩
  | 51 => ⟨S_, .i32⟩
  | 52 => ⟨S2560x5120, .i32⟩
  | 53 => ⟨S2560x5120, .i1⟩
  | 54 => ⟨S2560x5120, .i1⟩
  | 55 => ⟨S16, .bf16⟩
  | 56 => ⟨S1, .bf16⟩
  | 57 => ⟨S_, .bf16⟩
  | 58 => ⟨S1, .bf16⟩
  | 59 => ⟨S_, .bf16⟩
  | 60 => ⟨S1, .bf16⟩
  | 61 => ⟨S_, .bf16⟩
  | 62 => ⟨S1, .bf16⟩
  | 63 => ⟨S_, .bf16⟩
  | 64 => ⟨S1, .bf16⟩
  | 65 => ⟨S_, .bf16⟩
  | 66 => ⟨S1, .bf16⟩
  | 67 => ⟨S_, .bf16⟩
  | 68 => ⟨S1, .bf16⟩
  | 69 => ⟨S_, .bf16⟩
  | 70 => ⟨S1, .bf16⟩
  | 71 => ⟨S_, .bf16⟩
  | 72 => ⟨S1, .bf16⟩
  | 73 => ⟨S_, .bf16⟩
  | 74 => ⟨S1, .bf16⟩
  | 75 => ⟨S_, .bf16⟩
  | 76 => ⟨S1, .bf16⟩
  | 77 => ⟨S_, .bf16⟩
  | 78 => ⟨S1, .bf16⟩
  | 79 => ⟨S_, .bf16⟩
  | 80 => ⟨S1, .bf16⟩
  | 81 => ⟨S_, .bf16⟩
  | 82 => ⟨S1, .bf16⟩
  | 83 => ⟨S_, .bf16⟩
  | 84 => ⟨S1, .bf16⟩
  | 85 => ⟨S_, .bf16⟩
  | 86 => ⟨S1, .bf16⟩
  | 87 => ⟨S_, .bf16⟩
  | 88 => ⟨S2560x5120, .bf16⟩
  | 89 => ⟨S2560x5120, .bf16⟩
  | 90 => ⟨S2560x5120, .bf16⟩
  | 91 => ⟨S2560x5120, .bf16⟩
  | 92 => ⟨S2560x5120, .bf16⟩
  | 93 => ⟨S2560x5120, .bf16⟩
  | 94 => ⟨S2560x5120, .bf16⟩
  | 95 => ⟨S2560x5120, .bf16⟩
  | 96 => ⟨S2560x5120, .bf16⟩
  | 97 => ⟨S2560x5120, .bf16⟩
  | 98 => ⟨S2560x5120, .bf16⟩
  | 99 => ⟨S2560x5120, .bf16⟩
  | 100 => ⟨S2560x5120, .bf16⟩
  | 101 => ⟨S2560x5120, .bf16⟩
  | 102 => ⟨S2560x5120, .bf16⟩
  | 103 => ⟨S2560x5120, .bf16⟩
  | 104 => ⟨S2560x5120, .bf16⟩
  | 105 => ⟨S2560x5120, .bf16⟩
  | 106 => ⟨S2560x5120, .bf16⟩
  | 107 => ⟨S2560x5120, .bf16⟩
  | 108 => ⟨S2560x5120, .bf16⟩
  | 109 => ⟨S2560x5120, .bf16⟩
  | 110 => ⟨S2560x5120, .bf16⟩
  | 111 => ⟨S2560x5120, .bf16⟩
  | 112 => ⟨S2560x5120, .bf16⟩
  | 113 => ⟨S2560x5120, .bf16⟩
  | 114 => ⟨S2560x5120, .bf16⟩
  | 115 => ⟨S2560x5120, .bf16⟩
  | 116 => ⟨S2560x5120, .bf16⟩
  | 117 => ⟨S2560x5120, .bf16⟩
  | 118 => ⟨S2560x5120, .bf16⟩
  | 119 => ⟨S40x64x5120, .bf16⟩
  | 120 => ⟨S40x5120, .bf16⟩
  | 121 => ⟨S40x1x5120, .bf16⟩
  | 122 => ⟨S40x64x5120, .bf16⟩
  | 123 => ⟨S40x64x5120, .bf16⟩
  | 124 => ⟨S2560x5120, .bf16⟩
  | 125 => ⟨S40x5120, .f32⟩
  | 126 => ⟨S_, .i32⟩
  | 127 => ⟨S2560x5120, .i32⟩
  | _ => ⟨S2x512x5120, .bf16⟩

abbrev hbmTy0_1 (i : Nat) : BufTy := match i % 128 with
  | 0 => ⟨S2560x5120, .i32⟩
  | 1 => ⟨S_, .i32⟩
  | 2 => ⟨S2560x5120, .i32⟩
  | 3 => ⟨S2560x5120, .i32⟩
  | 4 => ⟨S_, .i32⟩
  | 5 => ⟨S2560x5120, .i32⟩
  | 6 => ⟨S2560x5120, .i1⟩
  | 7 => ⟨S2560x5120, .i1⟩
  | 8 => ⟨S_, .i32⟩
  | 9 => ⟨S2560x5120, .i32⟩
  | 10 => ⟨S2560x5120, .i32⟩
  | 11 => ⟨S_, .i32⟩
  | 12 => ⟨S2560x5120, .i32⟩
  | 13 => ⟨S2560x5120, .i32⟩
  | 14 => ⟨S_, .i32⟩
  | 15 => ⟨S2560x5120, .i32⟩
  | 16 => ⟨S2560x5120, .i1⟩
  | 17 => ⟨S2560x5120, .i1⟩
  | 18 => ⟨S_, .i32⟩
  | 19 => ⟨S2560x5120, .i32⟩
  | 20 => ⟨S2560x5120, .i32⟩
  | 21 => ⟨S_, .i32⟩
  | 22 => ⟨S2560x5120, .i32⟩
  | 23 => ⟨S2560x5120, .i32⟩
  | 24 => ⟨S_, .i32⟩
  | 25 => ⟨S2560x5120, .i32⟩
  | 26 => ⟨S2560x5120, .i1⟩
  | 27 => ⟨S2560x5120, .i1⟩
  | 28 => ⟨S_, .i32⟩
  | 29 => ⟨S2560x5120, .i32⟩
  | 30 => ⟨S2560x5120, .i32⟩
  | 31 => ⟨S_, .i32⟩
  | 32 => ⟨S2560x5120, .i32⟩
  | 33 => ⟨S2560x5120, .i32⟩
  | 34 => ⟨S_, .i32⟩
  | 35 => ⟨S2560x5120, .i32⟩
  | 36 => ⟨S2560x5120, .i1⟩
  | 37 => ⟨S2560x5120, .i1⟩
  | 38 => ⟨S16, .bf16⟩
  | 39 => ⟨S1, .bf16⟩
  | 40 => ⟨S_, .bf16⟩
  | 41 => ⟨S1, .bf16⟩
  | 42 => ⟨S_, .bf16⟩
  | 43 => ⟨S1, .bf16⟩
  | 44 => ⟨S_, .bf16⟩
  | 45 => ⟨S1, .bf16⟩
  | 46 => ⟨S_, .bf16⟩
  | 47 => ⟨S1, .bf16⟩
  | 48 => ⟨S_, .bf16⟩
  | 49 => ⟨S1, .bf16⟩
  | 50 => ⟨S_, .bf16⟩
  | 51 => ⟨S1, .bf16⟩
  | 52 => ⟨S_, .bf16⟩
  | 53 => ⟨S1, .bf16⟩
  | 54 => ⟨S_, .bf16⟩
  | 55 => ⟨S1, .bf16⟩
  | 56 => ⟨S_, .bf16⟩
  | 57 => ⟨S1, .bf16⟩
  | 58 => ⟨S_, .bf16⟩
  | 59 => ⟨S1, .bf16⟩
  | 60 => ⟨S_, .bf16⟩
  | 61 => ⟨S1, .bf16⟩
  | 62 => ⟨S_, .bf16⟩
  | 63 => ⟨S1, .bf16⟩
  | 64 => ⟨S_, .bf16⟩
  | 65 => ⟨S1, .bf16⟩
  | 66 => ⟨S_, .bf16⟩
  | 67 => ⟨S1, .bf16⟩
  | 68 => ⟨S_, .bf16⟩
  | 69 => ⟨S1, .bf16⟩
  | 70 => ⟨S_, .bf16⟩
  | 71 => ⟨S2560x5120, .bf16⟩
  | 72 => ⟨S2560x5120, .bf16⟩
  | 73 => ⟨S2560x5120, .bf16⟩
  | 74 => ⟨S2560x5120, .bf16⟩
  | 75 => ⟨S2560x5120, .bf16⟩
  | 76 => ⟨S2560x5120, .bf16⟩
  | 77 => ⟨S2560x5120, .bf16⟩
  | 78 => ⟨S2560x5120, .bf16⟩
  | 79 => ⟨S2560x5120, .bf16⟩
  | 80 => ⟨S2560x5120, .bf16⟩
  | 81 => ⟨S2560x5120, .bf16⟩
  | 82 => ⟨S2560x5120, .bf16⟩
  | 83 => ⟨S2560x5120, .bf16⟩
  | 84 => ⟨S2560x5120, .bf16⟩
  | 85 => ⟨S2560x5120, .bf16⟩
  | 86 => ⟨S2560x5120, .bf16⟩
  | 87 => ⟨S2560x5120, .bf16⟩
  | 88 => ⟨S2560x5120, .bf16⟩
  | 89 => ⟨S2560x5120, .bf16⟩
  | 90 => ⟨S2560x5120, .bf16⟩
  | 91 => ⟨S2560x5120, .bf16⟩
  | 92 => ⟨S2560x5120, .bf16⟩
  | 93 => ⟨S2560x5120, .bf16⟩
  | 94 => ⟨S2560x5120, .bf16⟩
  | 95 => ⟨S2560x5120, .bf16⟩
  | 96 => ⟨S2560x5120, .bf16⟩
  | 97 => ⟨S2560x5120, .bf16⟩
  | 98 => ⟨S2560x5120, .bf16⟩
  | 99 => ⟨S2560x5120, .bf16⟩
  | 100 => ⟨S2560x5120, .bf16⟩
  | 101 => ⟨S2560x5120, .bf16⟩
  | 102 => ⟨S40x64x5120, .bf16⟩
  | 103 => ⟨S40x5120, .bf16⟩
  | 104 => ⟨S40x1x5120, .bf16⟩
  | 105 => ⟨S40x64x5120, .bf16⟩
  | 106 => ⟨S40x64x5120, .bf16⟩
  | 107 => ⟨S2560x5120, .bf16⟩
  | 108 => ⟨S2x512x2560, .bf16⟩
  | 109 => ⟨S2x512x5120, .f32⟩
  | 110 => ⟨S2x512x2560, .bf16⟩
  | 111 => ⟨S2x512x5120, .f32⟩
  | 112 => ⟨S2x512x5120, .f32⟩
  | 113 => ⟨S2x512x16, .f32⟩
  | 114 => ⟨S2x512x16, .bf16⟩
  | 115 => ⟨S2x512x5120, .f32⟩
  | 116 => ⟨S_, .f32⟩
  | 117 => ⟨S2x512x5120, .f32⟩
  | 118 => ⟨S2x512x5120, .f32⟩
  | 119 => ⟨S2x512x5120, .f32⟩
  | 120 => ⟨S2x512x5120, .bf16⟩
  | _ => ⟨S2x512x5120, .bf16⟩

abbrev hbmTy (i : Nat) : BufTy := match i / 128 with
  | 0 => hbmTy0_0 i
  | 1 => hbmTy0_1 i
  | _ => ⟨S2x512x5120, .bf16⟩

abbrev bufTy : (tb : Table) → Fin (tcTables nBuf tb) → BufTy
  | .hbm, ⟨i, _⟩ => hbmTy i
  | _, _ => ⟨S2x512x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_c_4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_5 : Ref sig .tc := ⟨.hbm, 25, rfl⟩
abbrev main_v13 : Ref sig .tc := ⟨.hbm, 26, rfl⟩
abbrev main_v14 : Ref sig .tc := ⟨.hbm, 27, rfl⟩
abbrev main_c_6 : Ref sig .tc := ⟨.hbm, 28, rfl⟩
abbrev main_v15 : Ref sig .tc := ⟨.hbm, 29, rfl⟩
abbrev main_v16 : Ref sig .tc := ⟨.hbm, 30, rfl⟩
abbrev main_c_7 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_8 : Ref sig .tc := ⟨.hbm, 35, rfl⟩
abbrev main_v20 : Ref sig .tc := ⟨.hbm, 36, rfl⟩
abbrev main_v21 : Ref sig .tc := ⟨.hbm, 37, rfl⟩
abbrev main_c_9 : Ref sig .tc := ⟨.hbm, 38, rfl⟩
abbrev main_v22 : Ref sig .tc := ⟨.hbm, 39, rfl⟩
abbrev main_v23 : Ref sig .tc := ⟨.hbm, 40, rfl⟩
abbrev main_c_10 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_11 : Ref sig .tc := ⟨.hbm, 45, rfl⟩
abbrev main_v27 : Ref sig .tc := ⟨.hbm, 46, rfl⟩
abbrev main_v28 : Ref sig .tc := ⟨.hbm, 47, rfl⟩
abbrev main_c_12 : Ref sig .tc := ⟨.hbm, 48, rfl⟩
abbrev main_v29 : Ref sig .tc := ⟨.hbm, 49, rfl⟩
abbrev main_v30 : Ref sig .tc := ⟨.hbm, 50, rfl⟩
abbrev main_c_13 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_call0_v0 : Ref sig .tc := ⟨.hbm, 88, rfl⟩
abbrev main_call0_v1 : Ref sig .tc := ⟨.hbm, 89, rfl⟩
abbrev main_v67 : Ref sig .tc := ⟨.hbm, 90, rfl⟩
abbrev main_call1_v0 : Ref sig .tc := ⟨.hbm, 91, rfl⟩
abbrev main_call1_v1 : Ref sig .tc := ⟨.hbm, 92, rfl⟩
abbrev main_v68 : Ref sig .tc := ⟨.hbm, 93, rfl⟩
abbrev main_call2_v0 : Ref sig .tc := ⟨.hbm, 94, rfl⟩
abbrev main_call2_v1 : Ref sig .tc := ⟨.hbm, 95, rfl⟩
abbrev main_v69 : Ref sig .tc := ⟨.hbm, 96, rfl⟩
abbrev main_call3_v0 : Ref sig .tc := ⟨.hbm, 97, rfl⟩
abbrev main_call3_v1 : Ref sig .tc := ⟨.hbm, 98, rfl⟩
abbrev main_v70 : Ref sig .tc := ⟨.hbm, 99, rfl⟩
abbrev main_call4_v0 : Ref sig .tc := ⟨.hbm, 100, rfl⟩
abbrev main_call4_v1 : Ref sig .tc := ⟨.hbm, 101, rfl⟩
abbrev main_v71 : Ref sig .tc := ⟨.hbm, 102, rfl⟩
abbrev main_call5_v0 : Ref sig .tc := ⟨.hbm, 103, rfl⟩
abbrev main_call5_v1 : Ref sig .tc := ⟨.hbm, 104, rfl⟩
abbrev main_v72 : Ref sig .tc := ⟨.hbm, 105, rfl⟩
abbrev main_call6_v0 : Ref sig .tc := ⟨.hbm, 106, rfl⟩
abbrev main_call6_v1 : Ref sig .tc := ⟨.hbm, 107, rfl⟩
abbrev main_v73 : Ref sig .tc := ⟨.hbm, 108, rfl⟩
abbrev main_call7_v0 : Ref sig .tc := ⟨.hbm, 109, rfl⟩
abbrev main_call7_v1 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c_14 : Ref sig .tc := ⟨.hbm, 126, rfl⟩
abbrev main_v89 : Ref sig .tc := ⟨.hbm, 127, rfl⟩
abbrev main_v90 : Ref sig .tc := ⟨.hbm, 128, rfl⟩
abbrev main_c_15 : Ref sig .tc := ⟨.hbm, 129, rfl⟩
abbrev main_v91 : Ref sig .tc := ⟨.hbm, 130, rfl⟩
abbrev main_v92 : Ref sig .tc := ⟨.hbm, 131, rfl⟩
abbrev main_c_16 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_c_17 : Ref sig .tc := ⟨.hbm, 136, rfl⟩
abbrev main_v96 : Ref sig .tc := ⟨.hbm, 137, rfl⟩
abbrev main_v97 : Ref sig .tc := ⟨.hbm, 138, rfl⟩
abbrev main_c_18 : Ref sig .tc := ⟨.hbm, 139, rfl⟩
abbrev main_v98 : Ref sig .tc := ⟨.hbm, 140, rfl⟩
abbrev main_v99 : Ref sig .tc := ⟨.hbm, 141, rfl⟩
abbrev main_c_19 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_c_20 : Ref sig .tc := ⟨.hbm, 146, rfl⟩
abbrev main_v103 : Ref sig .tc := ⟨.hbm, 147, rfl⟩
abbrev main_v104 : Ref sig .tc := ⟨.hbm, 148, rfl⟩
abbrev main_c_21 : Ref sig .tc := ⟨.hbm, 149, rfl⟩
abbrev main_v105 : Ref sig .tc := ⟨.hbm, 150, rfl⟩
abbrev main_v106 : Ref sig .tc := ⟨.hbm, 151, rfl⟩
abbrev main_c_22 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_c_23 : Ref sig .tc := ⟨.hbm, 156, rfl⟩
abbrev main_v110 : Ref sig .tc := ⟨.hbm, 157, rfl⟩
abbrev main_v111 : Ref sig .tc := ⟨.hbm, 158, rfl⟩
abbrev main_c_24 : Ref sig .tc := ⟨.hbm, 159, rfl⟩
abbrev main_v112 : Ref sig .tc := ⟨.hbm, 160, rfl⟩
abbrev main_v113 : Ref sig .tc := ⟨.hbm, 161, rfl⟩
abbrev main_c_25 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_call15_v0 : Ref sig .tc := ⟨.hbm, 199, rfl⟩
abbrev main_call15_v1 : Ref sig .tc := ⟨.hbm, 200, rfl⟩
abbrev main_v150 : Ref sig .tc := ⟨.hbm, 201, rfl⟩
abbrev main_call16_v0 : Ref sig .tc := ⟨.hbm, 202, rfl⟩
abbrev main_call16_v1 : Ref sig .tc := ⟨.hbm, 203, rfl⟩
abbrev main_v151 : Ref sig .tc := ⟨.hbm, 204, rfl⟩
abbrev main_call17_v0 : Ref sig .tc := ⟨.hbm, 205, rfl⟩
abbrev main_call17_v1 : Ref sig .tc := ⟨.hbm, 206, rfl⟩
abbrev main_v152 : Ref sig .tc := ⟨.hbm, 207, rfl⟩
abbrev main_call18_v0 : Ref sig .tc := ⟨.hbm, 208, rfl⟩
abbrev main_call18_v1 : Ref sig .tc := ⟨.hbm, 209, rfl⟩
abbrev main_v153 : Ref sig .tc := ⟨.hbm, 210, rfl⟩
abbrev main_call19_v0 : Ref sig .tc := ⟨.hbm, 211, rfl⟩
abbrev main_call19_v1 : Ref sig .tc := ⟨.hbm, 212, rfl⟩
abbrev main_v154 : Ref sig .tc := ⟨.hbm, 213, rfl⟩
abbrev main_call20_v0 : Ref sig .tc := ⟨.hbm, 214, rfl⟩
abbrev main_call20_v1 : Ref sig .tc := ⟨.hbm, 215, rfl⟩
abbrev main_v155 : Ref sig .tc := ⟨.hbm, 216, rfl⟩
abbrev main_call21_v0 : Ref sig .tc := ⟨.hbm, 217, rfl⟩
abbrev main_call21_v1 : Ref sig .tc := ⟨.hbm, 218, rfl⟩
abbrev main_v156 : Ref sig .tc := ⟨.hbm, 219, rfl⟩
abbrev main_call22_v0 : Ref sig .tc := ⟨.hbm, 220, rfl⟩
abbrev main_call22_v1 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_cst_26 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩

abbrev nD : Nat := 1
abbrev τ : Topo := Topo.v7x

variable {F : FTy → Type} [FloatOps F]
-- ==== Proof.Tile.lean ====
/-
  The kernel body as a formula: the dequantised weight tiles and the running sum over the twenty
  tiles of the contraction axis, written once with the tile's position as a parameter.
-/
module

public import proofs.«01_k».proof.Proof.Gen.KernelIdeal.Frame

@[expose] public section

noncomputable section

namespace Cert.KernelIdeal.Tile

open Idealize.ShloMosaic Cert.KernelIdeal.Gen

variable {F : FTy → Type} [FloatOps F]

/-- The codes in the low halves of the packed bytes. -/
def codesLo (w : Vec F S64x128 .i8) : IVec S64x128 16 :=
  andi (extui 16 w natLt_8_16) (broadcast S64x128 15#16)

/-- The codes in the high halves of the packed bytes. -/
def codesHi (w : Vec F S64x128 .i8) : IVec S64x128 16 :=
  andi (shrsi (extui 16 w natLt_8_16) (broadcast S64x128 4#16)) (broadcast S64x128 15#16)

/-- The sixteen levels of one quantisation block, each lane's scaled by its own scale. -/
def levels (s : Vec F S1x128 .f32) (t : Vec F S16x128 .bf16) : FVec F S16x128 .bf16 :=
  mulf (shapeCast S16x128 t shapeCasts_S16x128_S16x128)
    (truncf .bf16 (broadcastTo S16x128 (shapeCast S1x128 s shapeCasts_S1x128_S1x128) broadcasts_S1x128_S16x128)
      bitsLt_bf16_f32)

/-- Sixteen rows of codes looked up in the levels. -/
def look (l : FVec F S16x128 .bf16) (codes : IVec S16x128 16) : FVec F S16x128 .bf16 :=
  dynamicGather 0 l (shapeCast S16x128 (shapeCast S16x128x1 (extsi 32 codes natLt_16_32)
    shapeCasts_S16x128_S16x128x1) shapeCasts_S16x128x1_S16x128)

/-- One quantisation block (64 rows) over one group of 128 lanes, dequantised. -/
def deq (l : FVec F S16x128 .bf16) (codes : IVec S64x128 16) : FVec F S64x128 .bf16 :=
  concatenate S64x128 0
    [⟨S16x128, look l (extractStridedSlice S16x128 ![0, 0] codes slices_S64x128_o0_0_S16x128)⟩,
     ⟨S16x128, look l (extractStridedSlice S16x128 ![16, 0] codes slices_S64x128_o16_0_S16x128)⟩,
     ⟨S16x128, look l (extractStridedSlice S16x128 ![32, 0] codes slices_S64x128_o32_0_S16x128)⟩,
     ⟨S16x128, look l (extractStridedSlice S16x128 ![48, 0] codes slices_S64x128_o48_0_S16x128)⟩]
    concatenates_S16x128_S16x128_S16x128_S16x128_S64x128_d0

/-- Four lane groups side by side. -/
def row (d : ℕ → FVec F S64x128 .bf16) : FVec F S64x512 .bf16 :=
  concatenate S64x512 1 [⟨S64x128, d 0⟩, ⟨S64x128, d 1⟩, ⟨S64x128, d 2⟩, ⟨S64x128, d 3⟩]
    concatenates_S64x128_S64x128_S64x128_S64x128_S64x512_d1

/-- Four quantisation blocks on top of each other: a tile of 256 rows. -/
def tile (d : ℕ → ℕ → FVec F S64x128 .bf16) : FVec F S256x512 .bf16 :=
  concatenate S256x512 0 [⟨S64x512, row (d 0)⟩, ⟨S64x512, row (d 1)⟩, ⟨S64x512, row (d 2)⟩, ⟨S64x512, row (d 3)⟩]
    concatenates_S64x512_S64x512_S64x512_S64x512_S256x512_d0

/-- The running sum with one more tile's product added. -/
def step (a : FVec F S1024x512 .f32) (x : Vec F S1024x256 .bf16) (w : FVec F S256x512 .bf16) : FVec F S1024x512 .f32 :=
  addf a (matmul dot_S1024x256_S256x512_S1024x512_1_0_0_1_n_n none
    (shapeCast S1024x256 x shapeCasts_S1024x256_S1024x256) w (constant S1024x512 .f32 0x00000000#32))

/-- The low-rank term, doubled: what the running sum starts from. -/
def start (h : Vec F S1024x16 .bf16) (lb : Vec F S16x512 .bf16) : FVec F S1024x512 .f32 :=
  mulf (broadcast S1024x512 (Scalar.ofBits .f32 0x40000000#32))
    (matmul dot_S1024x16_S16x512_S1024x512_1_0_0_1_n_n none h lb (constant S1024x512 .f32 0x00000000#32))

/-- The projection of the activations onto the rank: what the scratch holds. -/
def proj (x : Vec F S1024x5120 .bf16) (la : Vec F S5120x16 .bf16) : FVec F S1024x16 .bf16 :=
  shapeCast S1024x16 (truncf .bf16 (matmul dot_S1024x5120_S5120x16_S1024x16_1_0_0_1_n_n none
    (shapeCast S1024x5120 x shapeCasts_S1024x5120_S1024x5120) la (constant S1024x16 .f32 0x00000000#32))
    bitsLt_bf16_f32) shapeCasts_S1024x16_S1024x16

/-- The column slice `k` of the activations (256 columns). -/
def rectX (k : ℕ) : Rect S1024x5120 :=
  Rect.unit ![0, 256 * (k % 20)] S1024x256.size (fun a => by
    have := Nat.mod_lt k (show 0 < 20 by decide)
    match a with
    | ⟨0, _⟩ => exact Nat.le_refl 1024
    | ⟨1, _⟩ => show 256 * (k % 20) + 256 ≤ 5120; omega)

/-- Block `r` (64 rows) and lane group `c` (128 columns) of the packed weights. -/
def rectW (r c : ℕ) : Rect S2560x512 :=
  Rect.unit ![64 * (r % 40), 128 * (c % 4)] S64x128.size (fun a => by
    have := Nat.mod_lt r (show 0 < 40 by decide)
    have := Nat.mod_lt c (show 0 < 4 by decide)
    match a with
    | ⟨0, _⟩ => show 64 * (r % 40) + 64 ≤ 2560; omega
    | ⟨1, _⟩ => show 128 * (c % 4) + 128 ≤ 512; omega)

/-- Row `r` and lane group `c` of the scales. -/
def rectA (r c : ℕ) : Rect S80x512 :=
  Rect.unit ![r % 80, 128 * (c % 4)] S1x128.size (fun a => by
    have := Nat.mod_lt r (show 0 < 80 by decide)
    have := Nat.mod_lt c (show 0 < 4 by decide)
    match a with
    | ⟨0, _⟩ => show r % 80 + 1 ≤ 80; omega
    | ⟨1, _⟩ => show 128 * (c % 4) + 128 ≤ 512; omega)

section Loads
variable (X : ℕ → Vec F S1024x256 .bf16) (W : ℕ → ℕ → Vec F S64x128 .i8) (A : ℕ → ℕ → Vec F S1x128 .f32)
  (t : Vec F S16x128 .bf16)

/-- Tile `k` of the first half of the weights. -/
def tileLo (k : ℕ) : FVec F S256x512 .bf16 :=
  tile fun b c => deq (levels (A (4 * k + b) c) t) (codesLo (W (4 * k + b) c))

/-- Tile `k` of the second half of the weights. -/
def tileHi (k : ℕ) : FVec F S256x512 .bf16 :=
  tile fun b c => deq (levels (A (4 * (k + 10) + b) c) t) (codesHi (W (4 * k + b) c))

/-- The running sum after `n` tiles of the first half. -/
def accLo (a : FVec F S1024x512 .f32) : ℕ → FVec F S1024x512 .f32
  | 0 => a
  | n + 1 => step (accLo a n) (X n) (tileLo W A t n)

/-- The running sum after the first half and `n` tiles of the second. -/
def accHi (a : FVec F S1024x512 .f32) : ℕ → FVec F S1024x512 .f32
  | 0 => a
  | n + 1 => step (accHi a n) (X (n + 10)) (tileHi W A t n)

/-- What the body stores. -/
def out (h : Vec F S1024x16 .bf16) (lb : Vec F S16x512 .bf16) : FVec F S1024x512 .bf16 :=
  truncf .bf16 (accHi X W A t (accLo X W A t (start h lb) 10) 10) bitsLt_bf16_f32

end Loads

end Cert.KernelIdeal.Tile

end
-- ==== Proof.Entries.lean ====
/-
  The pieces of the body's formula read at an index, over the extended reals.
-/
module

public import proofs.«01_k».proof.Proof.Tile
public import Idealize.ShloMosaic.Lib.Pointwise

@[expose] public section

noncomputable section

namespace Cert.KernelIdeal.Tile

open Idealize.ShloMosaic Cert.KernelIdeal.Gen

/-- The level a code picks. -/
def pick (v : BitVec 16) : Fin 16 := ⟨(v.signExtend 32).toNat % 16, Nat.mod_lt _ (by decide)⟩

theorem look_apply (l : FVec Ideal S16x128 .bf16) (codes : IVec S16x128 16) (i : Fin 16) (j : Fin 128) :
    look l codes (ix2 i j) = l (ix2 (pick (codes (ix2 i j))) j) := by
  pointwise [look, pick]

theorem code_eq (l : FVec Ideal S16x128 .bf16) (codes : IVec S64x128 16) (j : Fin 128) {k k' : ℕ} {h : k < 64} {h' : k' < 64}
    (hk : k = k') : l (ix2 (pick (codes (ix2 ⟨k, h⟩ j))) j) = l (ix2 (pick (codes (ix2 ⟨k', h'⟩ j))) j) := by
  subst hk; rfl

/-- A dequantised block at an index: its code's level. -/
theorem deq_apply (l : FVec Ideal S16x128 .bf16) (codes : IVec S64x128 16) (q : Fin 64) (j : Fin 128) :
    deq l codes (ix2 q j) = l (ix2 (pick (codes (ix2 q j))) j) := by
  pointwise [deq, look_apply]
  have hq := q.isLt
  split_ifs <;> exact code_eq l codes j (by omega)

theorem levels_apply (s : Vec Ideal S1x128 .f32) (t : Vec Ideal S16x128 .bf16) (i : Fin 16) (j : Fin 128) :
    levels s t (ix2 i j) = t (ix2 i j) * s (ix2 0 j) := by
  pointwise [levels]

theorem at_eq (d : ℕ → FVec Ideal S64x128 .bf16) (q : Fin 64) {n n' k k' : ℕ} {h : k < 128} {h' : k' < 128}
    (hn : n = n') (hk : k = k') : d n (ix2 q ⟨k, h⟩) = d n' (ix2 q ⟨k', h'⟩) := by
  subst hn hk; rfl

theorem row_apply (d : ℕ → FVec Ideal S64x128 .bf16) (q : Fin 64) (c : Fin 512) :
    row d (ix2 q c) = d (c.val / 128) (ix2 q ⟨c.val % 128, Nat.mod_lt _ (by decide)⟩) := by
  pointwise [row]
  have hc := c.isLt
  split_ifs <;> exact at_eq d q (by omega) (by omega)

theorem stack_eq (d : ℕ → ℕ → FVec Ideal S64x128 .bf16) (c : Fin 512) {n n' k k' : ℕ} {h : k < 64} {h' : k' < 64}
    (hn : n = n') (hk : k = k') : row (d n) (ix2 ⟨k, h⟩ c) = row (d n') (ix2 ⟨k', h'⟩ c) := by
  subst hn hk; rfl

/-- A tile at an index: the block and lane group that hold it. -/
theorem tile_apply (d : ℕ → ℕ → FVec Ideal S64x128 .bf16) (q : Fin 256) (c : Fin 512) :
    tile d (ix2 q c) = d (q.val / 64) (c.val / 128)
      (ix2 ⟨q.val % 64, Nat.mod_lt _ (by decide)⟩ ⟨c.val % 128, Nat.mod_lt _ (by decide)⟩) := by
  rw [← row_apply (d (q.val / 64)) _ c]
  pointwise [tile]
  have hq := q.isLt
  split_ifs <;> exact stack_eq d c (by omega) (by omega)

theorem step_apply (a : FVec Ideal S1024x512 .f32) (x : Vec Ideal S1024x256 .bf16) (w : FVec Ideal S256x512 .bf16)
    (r : Fin 1024) (c : Fin 512) :
    step a x w (ix2 r c) = a (ix2 r c) + ∑ q : Fin 256, x (ix2 r q) * w (ix2 q c) := by
  pointwise [step]

theorem start_apply (h : Vec Ideal S1024x16 .bf16) (lb : Vec Ideal S16x512 .bf16) (r : Fin 1024) (c : Fin 512) :
    start h lb (ix2 r c) = Ideal.ofBits .f32 0x40000000#32 * ∑ j : Fin 16, h (ix2 r j) * lb (ix2 j c) := by
  pointwise [start]

theorem proj_apply (x : Vec Ideal S1024x5120 .bf16) (la : Vec Ideal S5120x16 .bf16) (r : Fin 1024) (j : Fin 16) :
    proj x la (ix2 r j) = ∑ d : Fin 5120, x (ix2 r d) * la (ix2 d j) := by
  pointwise [proj]

end Cert.KernelIdeal.Tile

end
-- ==== Proof.Body.lean ====
/-
  The body's stores, read off the symbolic run: what one grid point leaves in the output block is
  the formula of `Tile`, over loads of the input blocks.
-/
module

public import proofs.«01_k».proof.Proof.Tile
public import Idealize.ShloMosaic.Lib.Tactic
public import Idealize.ShloMosaic.Lib.Pipeline.Value

@[expose] public section

set_option maxRecDepth 16384

noncomputable section

namespace Cert.KernelIdeal.Tile

open Idealize.ShloMosaic Idealize.ShloMosaic.Tactic Cert.KernelIdeal.Gen

variable {F : FTy → Type} [FloatOps F]

/-- The formula over the loads as the run spells them: views of the staging buffers. -/
def viewed (arg1 : Memref sig .tc .vmem S1024x5120 .bf16) (harg1 : arg1.IsWhole) (arg2 : Memref sig .tc .vmem S2560x512 .i8) (harg2 : arg2.IsWhole) (arg3 : Memref sig .tc .vmem S80x512 .f32) (harg3 : arg3.IsWhole)
    (arg5 : Memref sig .tc .vmem S16x512 .bf16) (harg5 : arg5.IsWhole) (arg6 : Memref sig .tc .vmem S16x128 .bf16) (harg6 : arg6.IsWhole)
    (x0 : Vec F S1024x5120 .bf16) (x1 : Vec F S2560x512 .i8) (x2 : Vec F S80x512 .f32) (x4 : Vec F S16x512 .bf16) (x5 : Vec F S16x128 .bf16)
    (h : Vec F S1024x16 .bf16) : FVec F S1024x512 .bf16 :=
  out (fun k => View.readAt (Elt F) arg1.view (rectX k).toLoadRect (harg1.unread x0))
    (fun r c => View.readAt (Elt F) arg2.view (rectW r c).toLoadRect (harg2.unread x1))
    (fun r c => View.readAt (Elt F) arg3.view (rectA r c).toLoadRect (harg3.unread x2))
    (View.readAt (Elt F) arg6.view (Rect.unit ![0, 0] S16x128.size inb_S16x128_S16x128_0_0).toLoadRect (harg6.unread x5))
    h
    (View.readAt (Elt F) arg5.view (Rect.unit ![0, 0] S16x512.size inb_S16x512_S16x512_0_0).toLoadRect (harg5.unread x4))

/-- Later points: the store's value. -/
theorem run_B (c : Dev nD) (i : grid0.Coords) (arg1 : Memref sig .tc .vmem S1024x5120 .bf16) (harg1 : arg1.IsWhole) (arg2 : Memref sig .tc .vmem S2560x512 .i8) (harg2 : arg2.IsWhole) (arg3 : Memref sig .tc .vmem S80x512 .f32) (harg3 : arg3.IsWhole)
    (arg4 : Memref sig .tc .vmem S5120x16 .bf16) (harg4 : arg4.IsWhole) (arg5 : Memref sig .tc .vmem S16x512 .bf16) (harg5 : arg5.IsWhole) (arg6 : Memref sig .tc .vmem S16x128 .bf16) (harg6 : arg6.IsWhole)
    (arg7 : Memref sig .tc .vmem S1024x512 .bf16) (harg7 : arg7.IsWhole) (arg8 : Memref sig .tc .vmem S1024x16 .bf16) (harg8 : arg8.IsWhole) (hc0 : ¬cond0_0 i)
    (x0 : Vec F S1024x5120 .bf16) (x1 : Vec F S2560x512 .i8) (x2 : Vec F S80x512 .f32) (x3 : Vec F S5120x16 .bf16) (x4 : Vec F S16x512 .bf16) (x5 : Vec F S16x128 .bf16) (xs0 : Vec F S1024x16 .bf16) :
    (kernelRun0_B c i arg1 harg1 arg2 harg2 arg3 harg3 arg4 harg4 arg5 harg5 arg6 harg6 arg7 harg7 arg8 harg8 hc0 x0 x1 x2 x3 x4 x5 xs0).1
      = [⟨Rect.unit ![0, 0] S1024x512.size inb_S1024x512_S1024x512_0_0,
          viewed arg1 harg1 arg2 harg2 arg3 harg3 arg5 harg5 arg6 harg6 x0 x1 x2 x4 x5
            (View.readAt (Elt F) arg8.view (Rect.unit ![0, 0] S1024x16.size inb_S1024x16_S1024x16_0_0).toLoadRect (harg8.unread xs0))⟩] := by
  sl_kernel_rfl

/-- The formula over loads of the blocks' contents. -/
def stored (x0 : Vec F S1024x5120 .bf16) (x1 : Vec F S2560x512 .i8) (x2 : Vec F S80x512 .f32) (x4 : Vec F S16x512 .bf16) (x5 : Vec F S16x128 .bf16)
    (h : Vec F S1024x16 .bf16) : FVec F S1024x512 .bf16 :=
  out (fun k => View.ld x0 (rectX k)) (fun r c => View.ld x1 (rectW r c)) (fun r c => View.ld x2 (rectA r c)) x5 h x4

theorem hz : (![0, 0] : Fin 2 → Nat) = fun _ => 0 := funext fun a => by fin_cases a <;> rfl

/-- A view of a whole staging buffer is its contents. -/
theorem viewed_eq (arg1 : Memref sig .tc .vmem S1024x5120 .bf16) (harg1 : arg1.IsWhole) (arg2 : Memref sig .tc .vmem S2560x512 .i8) (harg2 : arg2.IsWhole) (arg3 : Memref sig .tc .vmem S80x512 .f32) (harg3 : arg3.IsWhole)
    (arg5 : Memref sig .tc .vmem S16x512 .bf16) (harg5 : arg5.IsWhole) (arg6 : Memref sig .tc .vmem S16x128 .bf16) (harg6 : arg6.IsWhole)
    (x0 : Vec F S1024x5120 .bf16) (x1 : Vec F S2560x512 .i8) (x2 : Vec F S80x512 .f32) (x4 : Vec F S16x512 .bf16) (x5 : Vec F S16x128 .bf16)
    (h : Vec F S1024x16 .bf16) :
    viewed arg1 harg1 arg2 harg2 arg3 harg3 arg5 harg5 arg6 harg6 x0 x1 x2 x4 x5 h = stored x0 x1 x2 x4 x5 h := by
  unfold viewed stored
  simp only [View.readAt_eq_ld, harg1.read_unread, harg2.read_unread, harg3.read_unread, harg5.read_unread, harg6.read_unread,
    View.ld_unit_zero (S := S16x128) hz, View.ld_unit_zero (S := S16x512) hz]

/-- First point: the store's value, with the projection the body has just put into the scratch. -/
theorem run_A (c : Dev nD) (i : grid0.Coords) (arg1 : Memref sig .tc .vmem S1024x5120 .bf16) (harg1 : arg1.IsWhole) (arg2 : Memref sig .tc .vmem S2560x512 .i8) (harg2 : arg2.IsWhole) (arg3 : Memref sig .tc .vmem S80x512 .f32) (harg3 : arg3.IsWhole)
    (arg4 : Memref sig .tc .vmem S5120x16 .bf16) (harg4 : arg4.IsWhole) (arg5 : Memref sig .tc .vmem S16x512 .bf16) (harg5 : arg5.IsWhole) (arg6 : Memref sig .tc .vmem S16x128 .bf16) (harg6 : arg6.IsWhole)
    (arg7 : Memref sig .tc .vmem S1024x512 .bf16) (harg7 : arg7.IsWhole) (arg8 : Memref sig .tc .vmem S1024x16 .bf16) (harg8 : arg8.IsWhole) (hc0 : cond0_0 i)
    (x0 : Vec F S1024x5120 .bf16) (x1 : Vec F S2560x512 .i8) (x2 : Vec F S80x512 .f32) (x3 : Vec F S5120x16 .bf16) (x4 : Vec F S16x512 .bf16) (x5 : Vec F S16x128 .bf16) :
    (kernelRun0_A c i arg1 harg1 arg2 harg2 arg3 harg3 arg4 harg4 arg5 harg5 arg6 harg6 arg7 harg7 arg8 harg8 hc0 x0 x1 x2 x3 x4 x5).1
      = [⟨Rect.unit ![0, 0] S1024x512.size inb_S1024x512_S1024x512_0_0,
          viewed arg1 harg1 arg2 harg2 arg3 harg3 arg5 harg5 arg6 harg6 x0 x1 x2 x4 x5
            (arg8.view.readCov (kernelRun0_A c i arg1 harg1 arg2 harg2 arg3 harg3 arg4 harg4 arg5 harg5 arg6 harg6 arg7 harg7 arg8 harg8 hc0 x0 x1 x2 x3 x4 x5).2.1
              (Rect.unit ![0, 0] S1024x16.size inb_S1024x16_S1024x16_0_0).toLoadRect)⟩] := by
  sl_kernel_rfl

/-- First point: what the body puts into the scratch. -/
theorem scr_A (c : Dev nD) (i : grid0.Coords) (arg1 : Memref sig .tc .vmem S1024x5120 .bf16) (harg1 : arg1.IsWhole) (arg2 : Memref sig .tc .vmem S2560x512 .i8) (harg2 : arg2.IsWhole) (arg3 : Memref sig .tc .vmem S80x512 .f32) (harg3 : arg3.IsWhole)
    (arg4 : Memref sig .tc .vmem S5120x16 .bf16) (harg4 : arg4.IsWhole) (arg5 : Memref sig .tc .vmem S16x512 .bf16) (harg5 : arg5.IsWhole) (arg6 : Memref sig .tc .vmem S16x128 .bf16) (harg6 : arg6.IsWhole)
    (arg7 : Memref sig .tc .vmem S1024x512 .bf16) (harg7 : arg7.IsWhole) (arg8 : Memref sig .tc .vmem S1024x16 .bf16) (harg8 : arg8.IsWhole) (hc0 : cond0_0 i)
    (x0 : Vec F S1024x5120 .bf16) (x1 : Vec F S2560x512 .i8) (x2 : Vec F S80x512 .f32) (x3 : Vec F S5120x16 .bf16) (x4 : Vec F S16x512 .bf16) (x5 : Vec F S16x128 .bf16) :
    (kernelRun0_A c i arg1 harg1 arg2 harg2 arg3 harg3 arg4 harg4 arg5 harg5 arg6 harg6 arg7 harg7 arg8 harg8 hc0 x0 x1 x2 x3 x4 x5).2.1
      = [⟨Rect.unit ![0, 0] S1024x16.size inb_S1024x16_S1024x16_0_0,
          proj (View.readAt (Elt F) arg1.view (Rect.unit ![0, 0] S1024x5120.size inb_S1024x5120_S1024x5120_0_0).toLoadRect (harg1.unread x0))
            (View.readAt (Elt F) arg4.view (Rect.unit ![0, 0] S5120x16.size inb_S5120x16_S5120x16_0_0).toLoadRect (harg4.unread x3))⟩] := by
  sl_kernel_rfl

theorem scr_A' (c : Dev nD) (i : grid0.Coords) (arg1 : Memref sig .tc .vmem S1024x5120 .bf16) (harg1 : arg1.IsWhole) (arg2 : Memref sig .tc .vmem S2560x512 .i8) (harg2 : arg2.IsWhole) (arg3 : Memref sig .tc .vmem S80x512 .f32) (harg3 : arg3.IsWhole)
    (arg4 : Memref sig .tc .vmem S5120x16 .bf16) (harg4 : arg4.IsWhole) (arg5 : Memref sig .tc .vmem S16x512 .bf16) (harg5 : arg5.IsWhole) (arg6 : Memref sig .tc .vmem S16x128 .bf16) (harg6 : arg6.IsWhole)
    (arg7 : Memref sig .tc .vmem S1024x512 .bf16) (harg7 : arg7.IsWhole) (arg8 : Memref sig .tc .vmem S1024x16 .bf16) (harg8 : arg8.IsWhole) (hc0 : cond0_0 i)
    (x0 : Vec F S1024x5120 .bf16) (x1 : Vec F S2560x512 .i8) (x2 : Vec F S80x512 .f32) (x3 : Vec F S5120x16 .bf16) (x4 : Vec F S16x512 .bf16) (x5 : Vec F S16x128 .bf16) :
    (kernelRun0_A c i arg1 harg1 arg2 harg2 arg3 harg3 arg4 harg4 arg5 harg5 arg6 harg6 arg7 harg7 arg8 harg8 hc0 x0 x1 x2 x3 x4 x5).2.1
      = [⟨Rect.unit ![0, 0] S1024x16.size inb_S1024x16_S1024x16_0_0, proj x0 x3⟩] := by
  rw [scr_A]
  simp only [View.readAt_eq_ld, harg1.read_unread, harg4.read_unread, View.ld_unit_zero (S := S1024x5120) hz,
    View.ld_unit_zero (S := S5120x16) hz]

/-- Later points: the output block. -/
theorem out_B (c : Dev nD) (i : grid0.Coords) (arg1 : Memref sig .tc .vmem S1024x5120 .bf16) (harg1 : arg1.IsWhole) (arg2 : Memref sig .tc .vmem S2560x512 .i8) (harg2 : arg2.IsWhole) (arg3 : Memref sig .tc .vmem S80x512 .f32) (harg3 : arg3.IsWhole)
    (arg4 : Memref sig .tc .vmem S5120x16 .bf16) (harg4 : arg4.IsWhole) (arg5 : Memref sig .tc .vmem S16x512 .bf16) (harg5 : arg5.IsWhole) (arg6 : Memref sig .tc .vmem S16x128 .bf16) (harg6 : arg6.IsWhole)
    (arg7 : Memref sig .tc .vmem S1024x512 .bf16) (harg7 : arg7.IsWhole) (arg8 : Memref sig .tc .vmem S1024x16 .bf16) (harg8 : arg8.IsWhole) (hc0 : ¬cond0_0 i)
    (x0 : Vec F S1024x5120 .bf16) (x1 : Vec F S2560x512 .i8) (x2 : Vec F S80x512 .f32) (x3 : Vec F S5120x16 .bf16) (x4 : Vec F S16x512 .bf16) (x5 : Vec F S16x128 .bf16) (xs0 : Vec F S1024x16 .bf16) :
    out0_B_6 c i arg1 harg1 arg2 harg2 arg3 harg3 arg4 harg4 arg5 harg5 arg6 harg6 arg7 harg7 arg8 harg8 hc0 x0 x1 x2 x3 x4 x5 xs0 = stored x0 x1 x2 x4 x5 xs0 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 x5 xs0), run_B, viewed_eq,
    View.canon_unit_zero hz]
  simp only [View.readAt_eq_ld, harg8.read_unread, View.ld_unit_zero (S := S1024x16) hz]

/-- First point: the output block. -/
theorem out_A (c : Dev nD) (i : grid0.Coords) (arg1 : Memref sig .tc .vmem S1024x5120 .bf16) (harg1 : arg1.IsWhole) (arg2 : Memref sig .tc .vmem S2560x512 .i8) (harg2 : arg2.IsWhole) (arg3 : Memref sig .tc .vmem S80x512 .f32) (harg3 : arg3.IsWhole)
    (arg4 : Memref sig .tc .vmem S5120x16 .bf16) (harg4 : arg4.IsWhole) (arg5 : Memref sig .tc .vmem S16x512 .bf16) (harg5 : arg5.IsWhole) (arg6 : Memref sig .tc .vmem S16x128 .bf16) (harg6 : arg6.IsWhole)
    (arg7 : Memref sig .tc .vmem S1024x512 .bf16) (harg7 : arg7.IsWhole) (arg8 : Memref sig .tc .vmem S1024x16 .bf16) (harg8 : arg8.IsWhole) (hc0 : cond0_0 i)
    (x0 : Vec F S1024x5120 .bf16) (x1 : Vec F S2560x512 .i8) (x2 : Vec F S80x512 .f32) (x3 : Vec F S5120x16 .bf16) (x4 : Vec F S16x512 .bf16) (x5 : Vec F S16x128 .bf16) :
    out0_A_6 c i arg1 harg1 arg2 harg2 arg3 harg3 arg4 harg4 arg5 harg5 arg6 harg6 arg7 harg7 arg8 harg8 hc0 x0 x1 x2 x3 x4 x5 = stored x0 x1 x2 x4 x5 (proj x0 x3) := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4 x5), run_A, viewed_eq,
    View.canon_unit_zero hz, scr_A', View.readCov_unit_zero (S := S1024x16) _ hz]

/-- First point: the scratch. -/
theorem sout_A (c : Dev nD) (i : grid0.Coords) (arg1 : Memref sig .tc .vmem S1024x5120 .bf16) (harg1 : arg1.IsWhole) (arg2 : Memref sig .tc .vmem S2560x512 .i8) (harg2 : arg2.IsWhole) (arg3 : Memref sig .tc .vmem S80x512 .f32) (harg3 : arg3.IsWhole)
    (arg4 : Memref sig .tc .vmem S5120x16 .bf16) (harg4 : arg4.IsWhole) (arg5 : Memref sig .tc .vmem S16x512 .bf16) (harg5 : arg5.IsWhole) (arg6 : Memref sig .tc .vmem S16x128 .bf16) (harg6 : arg6.IsWhole)
    (arg7 : Memref sig .tc .vmem S1024x512 .bf16) (harg7 : arg7.IsWhole) (arg8 : Memref sig .tc .vmem S1024x16 .bf16) (harg8 : arg8.IsWhole) (hc0 : cond0_0 i)
    (x0 : Vec F S1024x5120 .bf16) (x1 : Vec F S2560x512 .i8) (x2 : Vec F S80x512 .f32) (x3 : Vec F S5120x16 .bf16) (x4 : Vec F S16x512 .bf16) (x5 : Vec F S16x128 .bf16) :
    sout0_A_0 c i arg1 harg1 arg2 harg2 arg3 harg3 arg4 harg4 arg5 harg5 arg6 harg6 arg7 harg7 arg8 harg8 hc0 x0 x1 x2 x3 x4 x5 = proj x0 x3 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3 x4 x5), scr_A',
    View.canon_unit_zero hz]

end Cert.KernelIdeal.Tile

end
-- ==== Proof.Sums.lean ====
/-
  What the body stores, read at an index over the extended reals: the low-rank term plus the two
  halves' products, each one sum over the half's whole contraction axis.
-/
module

public import proofs.«01_k».proof.Proof.Entries
public import proofs.«01_k».proof.Proof.Body
public import Idealize.ShloMosaic.Lib.Pipeline.ValueKit

@[expose] public section

noncomputable section

namespace Cert.KernelIdeal.Tile

open Idealize.ShloMosaic Cert.KernelIdeal.Gen

section Acc
variable (X : ℕ → Vec Ideal S1024x256 .bf16) (W : ℕ → ℕ → Vec Ideal S64x128 .i8) (A : ℕ → ℕ → Vec Ideal S1x128 .f32)
  (t : Vec Ideal S16x128 .bf16)

theorem accLo_apply (a : FVec Ideal S1024x512 .f32) (r : Fin 1024) (c : Fin 512) (n : ℕ) :
    accLo X W A t a n (ix2 r c)
      = a (ix2 r c) + ∑ k ∈ Finset.range n, ∑ q : Fin 256, X k (ix2 r q) * tileLo W A t k (ix2 q c) := by
  induction n with
  | zero => simp [accLo]
  | succ n ih => rw [accLo, step_apply, ih, Finset.sum_range_succ, add_assoc]

theorem accHi_apply (a : FVec Ideal S1024x512 .f32) (r : Fin 1024) (c : Fin 512) (n : ℕ) :
    accHi X W A t a n (ix2 r c)
      = a (ix2 r c) + ∑ k ∈ Finset.range n, ∑ q : Fin 256, X (k + 10) (ix2 r q) * tileHi W A t k (ix2 q c) := by
  induction n with
  | zero => simp [accHi]
  | succ n ih => rw [accHi, step_apply, ih, Finset.sum_range_succ, add_assoc]

end Acc

/-- Ten tiles of 256 make one half of the contraction axis. -/
theorem sum_tiles (f : Fin 2560 → EReal) (g : ℕ → Fin 256 → EReal)
    (h : ∀ (k : ℕ) (q : Fin 256) (d : Fin 2560), k < 10 → d.val = 256 * k + q.val → g k q = f d) :
    ∑ k ∈ Finset.range 10, ∑ q : Fin 256, g k q = ∑ d : Fin 2560, f d := by
  rw [Finset.sum_range]
  have hs := Fin.sum_univ_univ_mul_add 10 256 fun l => if h : l < 2560 then f ⟨l, h⟩ else 0
  refine Eq.trans (Finset.sum_congr rfl fun k _ => Finset.sum_congr rfl fun q _ => ?_)
    (hs.trans (Finset.sum_congr rfl fun d _ => ?_))
  · have hk := k.isLt; have hq := q.isLt
    rw [dif_pos (show k.val * 256 + q.val < 2560 by omega)]
    exact h k.val q _ hk (by dsimp only; omega)
  · exact dif_pos d.isLt

theorem ldX_apply (x : Vec Ideal S1024x5120 .bf16) (k : ℕ) (r : Fin 1024) (q : Fin 256) (d : Fin 5120)
    (hd : d.val = 256 * (k % 20) + q.val) :
    (View.ld x (rectX k) : Vec Ideal S1024x256 .bf16) (ix2 r q) = x (ix2 r d) :=
  View.ld_unit_apply_of x _ _ _ _ _ fun a => by
    match a with
    | ⟨0, _⟩ => exact (Nat.zero_add _).symm
    | ⟨1, _⟩ => exact hd

theorem ldW_apply (x : Vec Ideal S2560x512 .i8) (b g : ℕ) (i : Fin 64) (j : Fin 128) (d : Fin 2560) (c : Fin 512)
    (hd : d.val = 64 * (b % 40) + i.val) (hc : c.val = 128 * (g % 4) + j.val) :
    (View.ld x (rectW b g) : Vec Ideal S64x128 .i8) (ix2 i j) = x (ix2 d c) :=
  View.ld_unit_apply_of x _ _ _ _ _ fun a => by
    match a with
    | ⟨0, _⟩ => exact hd
    | ⟨1, _⟩ => exact hc

theorem ldA_apply (x : Vec Ideal S80x512 .f32) (b g : ℕ) (j : Fin 128) (d : Fin 80) (c : Fin 512)
    (hd : d.val = b % 80) (hc : c.val = 128 * (g % 4) + j.val) :
    (View.ld x (rectA b g) : Vec Ideal S1x128 .f32) (ix2 0 j) = x (ix2 d c) :=
  View.ld_unit_apply_of x _ _ _ _ _ fun a => by
    match a with
    | ⟨0, _⟩ => exact hd
    | ⟨1, _⟩ => exact hc

/-- The level the low half of a byte picks. -/
def lo (w : BitVec 8) : Fin 16 := ⟨w.toNat % 16, Nat.mod_lt _ (by decide)⟩

/-- The level the high half of a byte picks. -/
def hi (w : BitVec 8) : Fin 16 := ⟨w.toNat / 16, by have := w.isLt; omega⟩

theorem pick_lo : ∀ w : BitVec 8, pick (IntOp.andi (w.setWidth 16) 15#16) = lo w := by decide +kernel

theorem pick_hi : ∀ w : BitVec 8,
    pick (IntOp.andi (IntOp.shrsi ArithUnit.vector (w.setWidth 16) 4#16) 15#16) = hi w := by decide +kernel

theorem codesLo_apply (w : Vec Ideal S64x128 .i8) (i : Fin 64) (j : Fin 128) :
    pick (codesLo w (ix2 i j)) = lo (w (ix2 i j)) := by
  pointwise [codesLo, pick_lo]

theorem codesHi_apply (w : Vec Ideal S64x128 .i8) (i : Fin 64) (j : Fin 128) :
    pick (codesHi w (ix2 i j)) = hi (w (ix2 i j)) := by
  pointwise [codesHi, pick_hi]

section Tiles
variable (W : ℕ → ℕ → Vec Ideal S64x128 .i8) (A : ℕ → ℕ → Vec Ideal S1x128 .f32) (t : Vec Ideal S16x128 .bf16)

/-- A weight of the first half, in a tile. -/
theorem tileLo_apply (k : ℕ) (q : Fin 256) (c : Fin 512) :
    tileLo W A t k (ix2 q c)
      = t (ix2 (lo (W (4 * k + q.val / 64) (c.val / 128) (ix2 ⟨q.val % 64, Nat.mod_lt _ (by decide)⟩ ⟨c.val % 128, Nat.mod_lt _ (by decide)⟩)))
            ⟨c.val % 128, Nat.mod_lt _ (by decide)⟩)
          * A (4 * k + q.val / 64) (c.val / 128) (ix2 0 ⟨c.val % 128, Nat.mod_lt _ (by decide)⟩) := by
  unfold tileLo
  rw [tile_apply, deq_apply, levels_apply, codesLo_apply]

/-- A weight of the second half, in a tile. -/
theorem tileHi_apply (k : ℕ) (q : Fin 256) (c : Fin 512) :
    tileHi W A t k (ix2 q c)
      = t (ix2 (hi (W (4 * k + q.val / 64) (c.val / 128) (ix2 ⟨q.val % 64, Nat.mod_lt _ (by decide)⟩ ⟨c.val % 128, Nat.mod_lt _ (by decide)⟩)))
            ⟨c.val % 128, Nat.mod_lt _ (by decide)⟩)
          * A (4 * (k + 10) + q.val / 64) (c.val / 128) (ix2 0 ⟨c.val % 128, Nat.mod_lt _ (by decide)⟩) := by
  unfold tileHi
  rw [tile_apply, deq_apply, levels_apply, codesHi_apply]

end Tiles

section Stored
variable (x0 : Vec Ideal S1024x5120 .bf16) (x1 : Vec Ideal S2560x512 .i8) (x2 : Vec Ideal S80x512 .f32)
  (t : Vec Ideal S16x128 .bf16)

/-- The loads of the whole step, as families of tiles. -/
def ldX : ℕ → Vec Ideal S1024x256 .bf16 := fun k => View.ld x0 (rectX k)
def ldW : ℕ → ℕ → Vec Ideal S64x128 .i8 := fun r c => View.ld x1 (rectW r c)
def ldA : ℕ → ℕ → Vec Ideal S1x128 .f32 := fun r c => View.ld x2 (rectA r c)

/-- What the body stores, at an index. -/
theorem stored_apply (x4 : Vec Ideal S16x512 .bf16) (h : Vec Ideal S1024x16 .bf16) (r : Fin 1024) (c : Fin 512) :
    (stored x0 x1 x2 x4 t h : FVec Ideal S1024x512 .bf16) (ix2 r c)
      = Ideal.ofBits .f32 0x40000000#32 * (∑ j : Fin 16, h (ix2 r j) * x4 (ix2 j c))
        + (∑ d : Fin 2560, x0 (ix2 r ⟨d.val, by omega⟩)
            * (t (ix2 (lo (x1 (ix2 d c))) ⟨c.val % 128, Nat.mod_lt _ (by decide)⟩) * x2 (ix2 ⟨d.val / 64, by omega⟩ c)))
        + ∑ d : Fin 2560, x0 (ix2 r ⟨2560 + d.val, by omega⟩)
            * (t (ix2 (hi (x1 (ix2 d c))) ⟨c.val % 128, Nat.mod_lt _ (by decide)⟩) * x2 (ix2 ⟨40 + d.val / 64, by omega⟩ c)) := by
  have hc := c.isLt
  show accHi (ldX x0) (ldW x1) (ldA x2) t (accLo (ldX x0) (ldW x1) (ldA x2) t (start h x4) 10) 10 (ix2 r c) = _
  rw [accHi_apply, accLo_apply, start_apply]
  congr 1
  · congr 1
    refine sum_tiles _ _ fun k q d hk hd => ?_
    have hq := q.isLt
    rw [tileLo_apply, ldX, ldX_apply x0 k r q ⟨d.val, by omega⟩ (by dsimp only; omega), ldW,
      ldW_apply x1 _ _ _ _ d c (by dsimp only; omega) (by dsimp only; omega), ldA,
      ldA_apply x2 _ _ _ ⟨d.val / 64, by omega⟩ c (by dsimp only; omega) (by dsimp only; omega)]
  · refine sum_tiles _ _ fun k q d hk hd => ?_
    have hq := q.isLt
    rw [tileHi_apply, ldX, ldX_apply x0 (k + 10) r q ⟨2560 + d.val, by omega⟩ (by dsimp only; omega), ldW,
      ldW_apply x1 _ _ _ _ d c (by dsimp only; omega) (by dsimp only; omega), ldA,
      ldA_apply x2 _ _ _ ⟨40 + d.val / 64, by omega⟩ c (by dsimp only; omega) (by dsimp only; omega)]

end Stored

end Cert.KernelIdeal.Tile

end
-- ==== Proof.Whole.lean ====
/-
  The kernel's run: what each point leaves in the output's block, and the result array it is written into.
-/
module

public import proofs.«01_k».proof.Proof.Sums
public import proofs.«01_k».proof.Proof.Gen.KernelIdeal.Frame
public import Idealize.ShloMosaic.Lib.Pipeline.ValueKit

@[expose] public section

noncomputable section

namespace Cert.KernelIdeal.Whole

open Idealize.ShloMosaic Idealize.ShloMosaic.TcCoe Cert.KernelIdeal Cert.KernelIdeal.Gen Cert.KernelIdeal.Tile
open Idealize.SL.Sem

variable {F : FTy → Type} [FloatOps F]
variable (m : (ℓ : Loc nD τ sig) → Buf (Elt F) ℓ)

/-- The low-rank projection of the tokens that the first point leaves in the scratch. -/
def low (c : Dev nD) : Vec F S1024x16 .bf16 := proj (V m c main_v3) (V m c main_arg3)

theorem index_whole (t : Fin cfg0.N) (a : Fin 2) :
    win0_0.index t a = 0 ∧ win0_3.index t a = 0 ∧ win0_5.index t a = 0 := by
  rcases fin_N0 t with rfl | rfl | rfl | rfl | rfl | rfl | rfl | rfl | rfl | rfl <;> fin_cases a <;> decide

theorem index_col (t : Fin cfg0.N) :
    win0_1.index t 0 = 0 ∧ win0_1.index t 1 = t.val ∧ win0_2.index t 0 = 0 ∧ win0_2.index t 1 = t.val
      ∧ win0_4.index t 0 = 0 ∧ win0_4.index t 1 = t.val ∧ win0_6.index t 0 = 0 ∧ win0_6.index t 1 = t.val := by
  rcases fin_N0 t with rfl | rfl | rfl | rfl | rfl | rfl | rfl | rfl | rfl | rfl <;> decide

theorem iblk_0 (c : Dev nD) (t : Fin cfg0.N) : (iblk m c 0 t : Vec F S1024x5120 .bf16) = V m c main_v3 := by
  funext j
  unfold iblk
  rw [View.read_apply]
  show V m c main_v3 _ = V m c main_v3 _
  congr 1
  funext a
  apply Fin.ext
  match a with
  | ⟨0, _⟩ => show win0_0.index t 0 * 1024 + 1 * (j 0).val = (j 0).val; rw [(index_whole t 0).1]; omega
  | ⟨1, _⟩ => show win0_0.index t 1 * 5120 + 1 * (j 1).val = (j 1).val; rw [(index_whole t 1).1]; omega

theorem iblk_3 (c : Dev nD) (t : Fin cfg0.N) : (iblk m c 3 t : Vec F S5120x16 .bf16) = V m c main_arg3 := by
  funext j
  unfold iblk
  rw [View.read_apply]
  show V m c main_arg3 _ = V m c main_arg3 _
  congr 1
  funext a
  apply Fin.ext
  match a with
  | ⟨0, _⟩ => show win0_3.index t 0 * 5120 + 1 * (j 0).val = (j 0).val; rw [(index_whole t 0).2.1]; omega
  | ⟨1, _⟩ => show win0_3.index t 1 * 16 + 1 * (j 1).val = (j 1).val; rw [(index_whole t 1).2.1]; omega

theorem iblk_5 (c : Dev nD) (t : Fin cfg0.N) : (iblk m c 5 t : Vec F S16x128 .bf16) = V m c main_v2 := by
  funext j
  unfold iblk
  rw [View.read_apply]
  show V m c main_v2 _ = V m c main_v2 _
  congr 1
  funext a
  apply Fin.ext
  match a with
  | ⟨0, _⟩ => show win0_5.index t 0 * 16 + 1 * (j 0).val = (j 0).val; rw [(index_whole t 0).2.2]; omega
  | ⟨1, _⟩ => show win0_5.index t 1 * 128 + 1 * (j 1).val = (j 1).val; rw [(index_whole t 1).2.2]; omega

theorem iblk_1 (c : Dev nD) (t : Fin cfg0.N) (r : Fin 2560) (j : Fin 512) (n : Fin 5120) (hn : n.val = t.val * 512 + j.val) :
    (iblk m c 1 t : Vec F S2560x512 .i8) (ix2 r j) = (V m c main_arg1 : Vec F S2560x5120 .i8) (ix2 r n) := by
  unfold iblk
  rw [View.read_apply]
  show V m c main_arg1 _ = V m c main_arg1 _
  congr 1
  funext a
  apply Fin.ext
  match a with
  | ⟨0, _⟩ => show win0_1.index t 0 * 2560 + 1 * r.val = r.val; rw [(index_col t).1]; omega
  | ⟨1, _⟩ => show win0_1.index t 1 * 512 + 1 * j.val = n.val; rw [(index_col t).2.1]; omega

theorem iblk_2 (c : Dev nD) (t : Fin cfg0.N) (r : Fin 80) (j : Fin 512) (n : Fin 5120) (hn : n.val = t.val * 512 + j.val) :
    (iblk m c 2 t : Vec F S80x512 .f32) (ix2 r j) = (V m c main_arg2 : Vec F S80x5120 .f32) (ix2 r n) := by
  unfold iblk
  rw [View.read_apply]
  show V m c main_arg2 _ = V m c main_arg2 _
  congr 1
  funext a
  apply Fin.ext
  match a with
  | ⟨0, _⟩ => show win0_2.index t 0 * 80 + 1 * r.val = r.val; rw [(index_col t).2.2.1]; omega
  | ⟨1, _⟩ => show win0_2.index t 1 * 512 + 1 * j.val = n.val; rw [(index_col t).2.2.2.1]; omega

theorem iblk_4 (c : Dev nD) (t : Fin cfg0.N) (r : Fin 16) (j : Fin 512) (n : Fin 5120) (hn : n.val = t.val * 512 + j.val) :
    (iblk m c 4 t : Vec F S16x512 .bf16) (ix2 r j) = (V m c main_arg4 : Vec F S16x5120 .bf16) (ix2 r n) := by
  unfold iblk
  rw [View.read_apply]
  show V m c main_arg4 _ = V m c main_arg4 _
  congr 1
  funext a
  apply Fin.ext
  match a with
  | ⟨0, _⟩ => show win0_4.index t 0 * 16 + 1 * r.val = r.val; rw [(index_col t).2.2.2.2.1]; omega
  | ⟨1, _⟩ => show win0_4.index t 1 * 512 + 1 * j.val = n.val; rw [(index_col t).2.2.2.2.2.1]; omega

/-- What point `t` stores into the output's block. -/
def block (c : Dev nD) (t : Fin cfg0.N) : Vec F S1024x512 .bf16 :=
  stored (V m c main_v3) (iblk m c 1 t) (iblk m c 2 t) (iblk m c 4 t) (V m c main_v2) (low m c)

/-- After point `n` the output's block is `block n`, and the scratch still holds the projection. -/
theorem outsAt_eq (c : Dev nD) : ∀ (n : ℕ) (h : n < cfg0.N), outsAt0 m c n h = (block m c ⟨n, h⟩, low m c)
  | 0, h => by
    rw [outsAt0_A m c ⟨0, h⟩ rfl, out_A, sout_A, iblk_0, iblk_3, iblk_5]
    rfl
  | n + 1, h => by
    have hN : cfg0.N = 10 := N_0
    have hB : ¬(⟨n + 1, h⟩ : Fin cfg0.N).val % 10 = 0 := by dsimp only; omega
    rw [outsAt0_B m c ⟨n + 1, h⟩ hB, out_B]
    unfold sout0_B_0
    rw [iblk_0, iblk_5]
    show (stored _ _ _ _ _ (outsAt0 m c n _).2, (outsAt0 m c n _).2) = _
    rw [outsAt_eq c n]
    rfl

/-- The point that writes column `n` of the result. -/
def pointOf (n : Fin 5120) : Fin cfg0.N := ⟨n.val / 512, by rw [show cfg0.N = 10 from N_0]; omega⟩

/-- The result array: each column from the block of its point. -/
def whole (c : Dev nD) : Buf (Elt F) ((c : Thread nD τ).loc main_v4) :=
  fun i : S1024x5120.Idx => block m c (pointOf (i 1)) (ix2 (i 0) ⟨(i 1).val % 512, Nat.mod_lt _ (by decide)⟩)

theorem flushed_eq (c : Dev nD) (t : Fin cfg0.N) (_hf : (cfg0.win 6).flush t = true) :
    (dats m 0 c).flushed 6 t = ((cfg0.win 6).blk t).view.read (Elt F) (whole m c) := by
  show (cfg0.win 6).cut (grid0.coords t) ((dats m 0 c).after 6 t) = _
  rw [after0_6, outsAt_eq]
  funext j
  rw [View.read_apply]
  have h0 : (((cfg0.win 6).blk t).view.emb j 0).val = (j 0).val := by
    show win0_6.index t 0 * 1024 + 1 * (j 0).val = (j 0).val
    rw [(index_col t).2.2.2.2.2.2.1]; omega
  have h1 : (((cfg0.win 6).blk t).view.emb j 1).val = t.val * 512 + (j 1).val := by
    show win0_6.index t 1 * 512 + 1 * (j 1).val = t.val * 512 + (j 1).val
    rw [(index_col t).2.2.2.2.2.2.2]; omega
  have hj : (j 1).val < 512 := (j 1).isLt
  show block m c t j = block m c (pointOf _) _
  have ht : pointOf (((cfg0.win 6).blk t).view.emb j 1) = t := Fin.ext (by
    show (((cfg0.win 6).blk t).view.emb j 1).val / 512 = t.val
    rw [h1]; omega)
  rw [ht]
  congr 1
  funext a
  apply Fin.ext
  match a with
  | ⟨0, _⟩ => exact h0.symm
  | ⟨1, _⟩ => show (j 1).val = (((cfg0.win 6).blk t).view.emb j 1).val % 512; rw [h1]; omega

/-- The result array ends at `whole`: the ten blocks cover it. -/
theorem final_o (c : Dev nD) : (dats m 0 c).arrAt 6 cfg0.N = whole m c :=
  (dats m 0 c).arrAt_eq_of_cover 6 (whole m c) (flushed_eq m c) fun i =>
    ⟨pointOf (i 1), flush0_6 _, by
      show i ∈ ((View.whole main_v4).slice (win0_6.rect (pointOf (i 1)))).set
      rw [View.set_slice_whole, Rect.mem_set_unit]
      intro a
      have h0 : (i 0 : Nat) < 1024 := (i 0).isLt
      have h1 : (i 1 : Nat) < 5120 := (i 1).isLt
      match a with
      | ⟨0, _⟩ =>
        show win0_6.index (pointOf (i 1)) 0 * 1024 ≤ (i 0 : Nat) ∧ (i 0 : Nat) < win0_6.index (pointOf (i 1)) 0 * 1024 + 1024
        rw [(index_col _).2.2.2.2.2.2.1]; omega
      | ⟨1, _⟩ =>
        show win0_6.index (pointOf (i 1)) 1 * 512 ≤ (i 1 : Nat) ∧ (i 1 : Nat) < win0_6.index (pointOf (i 1)) 1 * 512 + 512
        rw [(index_col _).2.2.2.2.2.2.2]
        show (i 1 : Nat) / 512 * 512 ≤ (i 1 : Nat) ∧ (i 1 : Nat) < (i 1 : Nat) / 512 * 512 + 512
        omega⟩

/-- The returned array: the result array, reshaped to the tokens' shape. -/
def result (c : Dev nD) : Buf (Elt F) ((c : Thread nD τ).loc main_v5) :=
  shapeCast S2x512x5120 (whole m c : Vec F S1024x5120 .bf16) shapeCasts_S1024x5120_S2x512x5120

theorem W_main_v5 (c : Dev nD) : Pipeline.afterTail₀ cfgs (dats m) 0 (V0 m) [hostOps1] c main_v5 = result m c := by
  unfold Pipeline.afterTail₀ result
  simp only [hostOps1, List.flatten_cons, List.flatten_nil, List.append_nil]
  after_results_simp
  rw [← final_o m c]
  exact congrArg (fun X : Vec F S1024x5120 .bf16 => shapeCast S2x512x5120 X shapeCasts_S1024x5120_S2x512x5120)
    (Pipeline.withArrays_arr spec0 (by decide) c (V0 m c) (fun w => (dats m 0 c).arrAt w cfg0.N) 6)

/-- The tokens, as the region finds them. -/
theorem V_main_v3 (c : Dev nD) : V m c main_v3
    = shapeCast S1024x5120 (m ((c : Thread nD τ).loc main_arg0) : Vec F S2x512x5120 .bf16) shapeCasts_S2x512x5120_S1024x5120 := by
  show StableHlo.after _ _ _ = _
  simp only [hostOps0, List.flatten_cons, List.flatten_nil, List.append_nil]
  after_results_simp
  rfl

/-- The table of levels, as the region finds it. -/
theorem V_main_v2 (c : Dev nD) : V m c main_v2
    = broadcastInDim S16x128 ![0, 1] bcast_S16x1_S16x128_0_1 (broadcastInDim S16x1 ![0] bcast_S16_S16x1_0
        (truncf .bf16 (fun i => FloatOps.ofBits .f32 (lit0 (S16.rowMajor i)) : FVec F S16 .f32) bitsLt_bf16_f32)) := by
  show StableHlo.after _ _ _ = _
  simp only [hostOps0, List.flatten_cons, List.flatten_nil, List.append_nil]
  after_results_simp
  rfl

/-- The run, read: the returned array at `result`, the arguments unchanged. -/
theorem run (ρ : Dev nD → PrngReg) : θ_run defs (onTc (τ := τ) (main (F := F))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).trans (W_main_v5 m c), h.2 c⟩)
    (θ_run_and ((θ_run defs _ _).mono (fun _ h c => (h c).2 main_v5 (Pipeline.mem_restRefs_of main_v5 (by decide) (by decide))) (run_main m ρ))
      (unchanged m ρ))

end Cert.KernelIdeal.Whole

end
-- ==== Proof.Ref.lean ====
/-
  The reference's result, read at an index over the extended reals.
-/
module

public import proofs.«01_k».proof.Proof.Sums
public import proofs.«01_k».proof.Proof.Gen.ReferenceIdeal
public import proofs.«01_k».proof.Proof.Gen.ReferenceIdeal.Run

@[expose] public section

noncomputable section

namespace Cert.ReferenceIdeal.Read

open Idealize.ShloMosaic Cert.ReferenceIdeal Cert.ReferenceIdeal.Gen Cert.ReferenceIdeal.Value
open Cert.KernelIdeal.Tile (lo hi)

variable {F : FTy → Type} [FloatOps F]

/-- One bit of the codes. -/
def bit (code : IVec S2560x5120 32) (k : BitVec 32) : IVec S2560x5120 1 :=
  cmpi .ne (andi (Host.shrsi code (broadcastInDim S2560x5120 ![] bcast_S_S2560x5120 (constantI S_ 32 k))) (broadcastInDim S2560x5120 ![] bcast_S_S2560x5120 (constantI S_ 32 1#32))) (broadcastInDim S2560x5120 ![] bcast_S_S2560x5120 (constantI S_ 32 0#32))

/-- One level of the table, at every place. -/
def level (T : FVec F S16 .bf16) (k : ℕ) (h : S16.Slices ![k] S1) : FVec F S2560x5120 .bf16 :=
  broadcastInDim S2560x5120 ![] bcast_S_S2560x5120 (shapeCast S_ (extractStridedSlice S1 ![k] T h) shapeCasts_S1_S_)

/-- The levels that the codes pick, by their four bits. -/
def chosen (code : IVec S2560x5120 32) (T : FVec F S16 .bf16) : FVec F S2560x5120 .bf16 :=
  (select (bit code 3#32) (select (bit code 2#32) (select (bit code 1#32) (select (bit code 0#32) (level T 15 slices_S16_S1_15) (level T 14 slices_S16_S1_14)) (select (bit code 0#32) (level T 13 slices_S16_S1_13) (level T 12 slices_S16_S1_12))) (select (bit code 1#32) (select (bit code 0#32) (level T 11 slices_S16_S1_11) (level T 10 slices_S16_S1_10)) (select (bit code 0#32) (level T 9 slices_S16_S1_9) (level T 8 slices_S16_S1_8)))) (select (bit code 2#32) (select (bit code 1#32) (select (bit code 0#32) (level T 7 slices_S16_S1_7) (level T 6 slices_S16_S1_6)) (select (bit code 0#32) (level T 5 slices_S16_S1_5) (level T 4 slices_S16_S1_4))) (select (bit code 1#32) (select (bit code 0#32) (level T 3 slices_S16_S1_3) (level T 2 slices_S16_S1_2)) (select (bit code 0#32) (level T 1 slices_S16_S1_1) (level T 0 slices_S16_S1_0)))))

/-- One half's product: the tokens' half against the picked levels times the blocks' scales. -/
def half (x : Vec F S2x512x2560 .bf16) (code : IVec S2560x5120 32) (T : FVec F S16 .bf16) (a : Vec F S40x5120 .f32) : FVec F S2x512x5120 .f32 :=
  Host.dotGeneral dot_S2x512x2560_S2560x5120_S2x512x5120_2_0_01_1_n_n none x
    (shapeCast S2560x5120 (mulf (shapeCast S40x64x5120 (chosen code T) shapeCasts_S2560x5120_S40x64x5120)
      (broadcastInDim S40x64x5120 ![0, 1, 2] bcast_S40x1x5120_S40x64x5120_0_1_2 (broadcastInDim S40x1x5120 ![0, 2] bcast_S40x5120_S40x1x5120_0_2 (truncf .bf16 a bitsLt_bf16_f32)))) shapeCasts_S40x64x5120_S2560x5120)

theorem v175_eq (V0 : Valuation τ sig (Elt F)) :
    res_main_v175 V0 = addf
      (half (extractStridedSlice S2x512x2560 ![0, 0, 0] (V0 (Proc.devRef .tc main_arg0)) slices_S2x512x5120_S2x512x2560_0_0_0)
        (res_main_v2 V0) (res_main_v34 V0) (extractStridedSlice S40x5120 ![0, 0] (V0 (Proc.devRef .tc main_arg2)) slices_S80x5120_S40x5120_0_0))
      (half (extractStridedSlice S2x512x2560 ![0, 0, 2560] (V0 (Proc.devRef .tc main_arg0)) slices_S2x512x5120_S2x512x2560_0_0_2560)
        (res_main_v4 V0) (res_main_v117 V0) (extractStridedSlice S40x5120 ![40, 0] (V0 (Proc.devRef .tc main_arg2)) slices_S80x5120_S40x5120_40_0)) := rfl

/-- One bit of a code, as a word. -/
def bitw (v k : BitVec 32) : BitVec 1 := IntOp.cmpi .ne (IntOp.andi (IntOp.shrsi ArithUnit.host v k) 1#32) 0#32

theorem bit_apply (code : IVec S2560x5120 32) (k : BitVec 32) (i : Fin 2560) (j : Fin 5120) :
    bit code k (ix2 i j) = bitw (code (ix2 i j)) k := by
  pointwise [bit, bitw]

theorem level_apply (T : FVec Ideal S16 .bf16) (k : ℕ) (h : S16.Slices ![k] S1) (hk : k < 16) (i : Fin 2560) (j : Fin 5120) :
    level T k h (ix2 i j) = T (ix1 ⟨k, hk⟩) := by
  pointwise [level]

/-- A word's low four bits are the number `n`. -/
def Codes (v : BitVec 32) (n : Fin 16) : Prop :=
  bitw v 0#32 = BitVec.ofBool (n.val.testBit 0) ∧ bitw v 1#32 = BitVec.ofBool (n.val.testBit 1)
    ∧ bitw v 2#32 = BitVec.ofBool (n.val.testBit 2) ∧ bitw v 3#32 = BitVec.ofBool (n.val.testBit 3)

instance (v : BitVec 32) (n : Fin 16) : Decidable (Codes v n) := by unfold Codes; infer_instance

theorem codes_lo : ∀ w : BitVec 8, Codes (IntOp.andi (w.setWidth 32) 15#32) (lo w) := by decide +kernel

theorem codes_hi : ∀ w : BitVec 8, Codes (IntOp.shrsi ArithUnit.host (w.setWidth 32) 4#32) (hi w) := by decide +kernel

theorem chosen_apply (code : IVec S2560x5120 32) (T : FVec Ideal S16 .bf16) (i : Fin 2560) (j : Fin 5120) (n : Fin 16)
    (h : Codes (code (ix2 i j)) n) : chosen code T (ix2 i j) = T (ix1 n) := by
  obtain ⟨h0, h1, h2, h3⟩ := h
  pointwise [chosen, bit_apply, level_apply]
  rw [h0, h1, h2, h3]
  fin_cases n <;> rfl

theorem half_apply (x : Vec Ideal S2x512x2560 .bf16) (code : IVec S2560x5120 32) (T : FVec Ideal S16 .bf16) (a : Vec Ideal S40x5120 .f32)
    (b : Fin 2) (s : Fin 512) (j : Fin 5120) :
    half x code T a (ix3 b s j) = ∑ d : Fin 2560, x (ix3 b s d) * (chosen code T (ix2 d j) * a (ix2 ⟨d.val / 64, by omega⟩ j)) := by
  pointwise [half]

/-- The sixteen levels. -/
def levelAt (n : Fin 16) : EReal := Ideal.ofBits .f32 (lit0 n)

/-- The result at an index: the two halves' products, plus twice the low-rank term. -/
def spec (x : Vec Ideal S2x512x5120 .bf16) (w : Vec Ideal S2560x5120 .i8) (a : Vec Ideal S80x5120 .f32)
    (la : Vec Ideal S5120x16 .bf16) (lb : Vec Ideal S16x5120 .bf16) (b : Fin 2) (s : Fin 512) (j : Fin 5120) : EReal :=
  ((∑ d : Fin 2560, x (ix3 b s ⟨d.val, by omega⟩) * (levelAt (lo (w (ix2 d j))) * a (ix2 ⟨d.val / 64, by omega⟩ j)))
    + ∑ d : Fin 2560, x (ix3 b s ⟨2560 + d.val, by omega⟩) * (levelAt (hi (w (ix2 d j))) * a (ix2 ⟨40 + d.val / 64, by omega⟩ j)))
  + Ideal.ofBits .f32 0x40000000#32 * ∑ r : Fin 16, (∑ d : Fin 5120, x (ix3 b s d) * la (ix2 d r)) * lb (ix2 r j)

theorem spec_congr {x x' : Vec Ideal S2x512x5120 .bf16} {w w' : Vec Ideal S2560x5120 .i8} {a a' : Vec Ideal S80x5120 .f32}
    {la la' : Vec Ideal S5120x16 .bf16} {lb lb' : Vec Ideal S16x5120 .bf16} (hx : x = x') (hw : w = w') (ha : a = a') (hla : la = la')
    (hlb : lb = lb') (b : Fin 2) (s : Fin 512) (j : Fin 5120) : spec x w a la lb b s j = spec x' w' a' la' lb' b s j := by
  subst hx hw ha hla hlb; rfl

theorem v34_apply (V0 : Valuation τ sig (Elt Ideal)) (n : Fin 16) :
    (res_main_v34 V0 : FVec Ideal S16 .bf16) (ix1 n) = levelAt n := by
  fin_cases n <;> rfl

theorem v117_apply (V0 : Valuation τ sig (Elt Ideal)) (n : Fin 16) :
    (res_main_v117 V0 : FVec Ideal S16 .bf16) (ix1 n) = levelAt n := by
  fin_cases n <;> rfl

/-- Twice the low-rank term. -/
def lora (x : FVec Ideal S2x512x5120 .bf16) (la : FVec Ideal S5120x16 .bf16) (lb : FVec Ideal S16x5120 .bf16) : FVec Ideal S2x512x5120 .f32 :=
  mulf (broadcastInDim S2x512x5120 ![] bcast_S_S2x512x5120 (constant S_ .f32 0x40000000#32)) (Host.dotGeneral dot_S2x512x16_S16x5120_S2x512x5120_2_0_01_1_n_n none (truncf .bf16 (Host.dotGeneral dot_S2x512x5120_S5120x16_S2x512x16_2_0_01_1_n_n none x la) bitsLt_bf16_f32) lb)

/-- The reference's term. -/
def result (V0 : Valuation τ sig (Elt Ideal)) : FVec Ideal S2x512x5120 .bf16 :=
  truncf .bf16 (addf (res_main_v175 V0) (lora (V0 (Proc.devRef .tc main_arg0)) (V0 (Proc.devRef .tc main_arg3)) (V0 (Proc.devRef .tc main_arg4)))) bitsLt_bf16_f32

section Terms
variable (x : Vec Ideal S2x512x5120 .bf16) (w : Vec Ideal S2560x5120 .i8) (a : Vec Ideal S80x5120 .f32)
    (la : Vec Ideal S5120x16 .bf16) (lb : Vec Ideal S16x5120 .bf16)

theorem half_lo_apply (code : IVec S2560x5120 32) (hcode : code = andi (extui 32 w natLt_8_32) (broadcastInDim S2560x5120 ![] bcast_S_S2560x5120 (constantI S_ 32 15#32)))
    (T : FVec Ideal S16 .bf16) (hT : ∀ n, T (ix1 n) = levelAt n) (b : Fin 2) (s : Fin 512) (j : Fin 5120) :
    half (extractStridedSlice S2x512x2560 ![0, 0, 0] x slices_S2x512x5120_S2x512x2560_0_0_0) code T
        (extractStridedSlice S40x5120 ![0, 0] a slices_S80x5120_S40x5120_0_0) (ix3 b s j)
      = ∑ d : Fin 2560, x (ix3 b s ⟨d.val, by omega⟩) * (levelAt (lo (w (ix2 d j))) * a (ix2 ⟨d.val / 64, by omega⟩ j)) := by
  rw [half_apply]
  refine Finset.sum_congr rfl fun d _ => ?_
  rw [chosen_apply code T d j (lo (w (ix2 d j))) (by subst hcode; pointwise; exact codes_lo _), hT]
  pointwise

theorem half_hi_apply (code : IVec S2560x5120 32) (hcode : code = Host.shrsi (extui 32 w natLt_8_32) (broadcastInDim S2560x5120 ![] bcast_S_S2560x5120 (constantI S_ 32 4#32)))
    (T : FVec Ideal S16 .bf16) (hT : ∀ n, T (ix1 n) = levelAt n) (b : Fin 2) (s : Fin 512) (j : Fin 5120) :
    half (extractStridedSlice S2x512x2560 ![0, 0, 2560] x slices_S2x512x5120_S2x512x2560_0_0_2560) code T
        (extractStridedSlice S40x5120 ![40, 0] a slices_S80x5120_S40x5120_40_0) (ix3 b s j)
      = ∑ d : Fin 2560, x (ix3 b s ⟨2560 + d.val, by omega⟩) * (levelAt (hi (w (ix2 d j))) * a (ix2 ⟨40 + d.val / 64, by omega⟩ j)) := by
  rw [half_apply]
  refine Finset.sum_congr rfl fun d _ => ?_
  rw [chosen_apply code T d j (hi (w (ix2 d j))) (by subst hcode; pointwise; exact codes_hi _), hT]
  pointwise

theorem lora_apply (b : Fin 2) (s : Fin 512) (j : Fin 5120) :
    lora x la lb (ix3 b s j)
      = Ideal.ofBits .f32 0x40000000#32 * ∑ r : Fin 16, (∑ d : Fin 5120, x (ix3 b s d) * la (ix2 d r)) * lb (ix2 r j) := by
  pointwise [lora]

end Terms

theorem result_apply (V0 : Valuation τ sig (Elt Ideal)) (b : Fin 2) (s : Fin 512) (j : Fin 5120) :
    result V0 (ix3 b s j) = spec (V0 (Proc.devRef .tc main_arg0)) (V0 (Proc.devRef .tc main_arg1)) (V0 (Proc.devRef .tc main_arg2))
      (V0 (Proc.devRef .tc main_arg3)) (V0 (Proc.devRef .tc main_arg4)) b s j := by
  unfold result
  rw [v175_eq]
  exact congrArg₂ (· + ·)
    (congrArg₂ (· + ·) (half_lo_apply _ _ _ _ rfl _ (v34_apply V0) b s j) (half_hi_apply _ _ _ _ rfl _ (v117_apply V0) b s j))
    (lora_apply _ _ _ b s j)

end Cert.ReferenceIdeal.Read

end
-- ==== Proof.Agree.lean ====
/-
  The kernel's returned array and the reference's result, entry by entry, are the same extended real.
-/
module

public import proofs.«01_k».proof.Proof.Whole
public import proofs.«01_k».proof.Proof.Ref

@[expose] public section

noncomputable section

namespace Cert.KernelIdeal.Whole

open Idealize.ShloMosaic Idealize.ShloMosaic.TcCoe Cert.KernelIdeal Cert.KernelIdeal.Gen Cert.KernelIdeal.Tile
open Cert.ReferenceIdeal.Read (spec levelAt)

/-- The tokens as a matrix, at an index. -/
theorem tokens_apply (x : Vec Ideal S2x512x5120 .bf16) (b : Fin 2) (s : Fin 512) (d : Fin 5120) (r : Fin 1024) (hr : r.val = b.val * 512 + s.val) :
    shapeCast S1024x5120 x shapeCasts_S2x512x5120_S1024x5120 (ix2 r d) = x (ix3 b s d) := by
  have hs := s.isLt
  pointwise
  congr 2
  · exact Fin.ext (by show r.val / 512 = b.val; omega)
  · exact Fin.ext (by show r.val % 512 = s.val; omega)

/-- The table, at an index. -/
theorem table_apply (n : Fin 16) (l : Fin 128) :
    (broadcastInDim S16x128 ![0, 1] bcast_S16x1_S16x128_0_1 (broadcastInDim S16x1 ![0] bcast_S16_S16x1_0
        (truncf .bf16 (fun i => FloatOps.ofBits .f32 (lit0 (S16.rowMajor i)) : FVec Ideal S16 .f32) bitsLt_bf16_f32))) (ix2 n l)
      = levelAt n := by
  pointwise [levelAt]
  fin_cases n <;> rfl

/-- The returned array, at an index. -/
theorem returned_apply (y : Vec Ideal S1024x5120 .bf16) (b : Fin 2) (s : Fin 512) (n : Fin 5120) :
    shapeCast S2x512x5120 y shapeCasts_S1024x5120_S2x512x5120 (ix3 b s n) = y (ix2 ⟨b.val * 512 + s.val, by omega⟩ n) := by
  pointwise

variable (m : (ℓ : Loc nD τ sig) → Buf (Elt Ideal) ℓ)

/-- The kernel's returned array, at an index, is the specification's value. -/
theorem result_apply (c : Dev nD) (b : Fin 2) (s : Fin 512) (n : Fin 5120) :
    (result m c : Vec Ideal S2x512x5120 .bf16) (ix3 b s n)
      = spec (m ((c : Thread nD τ).loc main_arg0)) (m ((c : Thread nD τ).loc main_arg1)) (m ((c : Thread nD τ).loc main_arg2))
          (m ((c : Thread nD τ).loc main_arg3)) (m ((c : Thread nD τ).loc main_arg4)) b s n := by
  have hn := n.isLt
  have hp : n.val = (pointOf n).val * 512 + n.val % 512 := by show n.val = n.val / 512 * 512 + n.val % 512; omega
  unfold result
  rw [returned_apply]
  show block m c (pointOf n) (ix2 ⟨b.val * 512 + s.val, by omega⟩ ⟨n.val % 512, Nat.mod_lt _ (by decide)⟩) = _
  unfold block low
  rw [stored_apply]
  have hT : ∀ (k : Fin 16) (l : Fin 128), (V m c main_v2 : Vec Ideal S16x128 .bf16) (ix2 k l) = levelAt k := fun k l => by
    rw [V_main_v2]; exact table_apply k l
  have hX : ∀ d : Fin 5120, (V m c main_v3 : Vec Ideal S1024x5120 .bf16) (ix2 ⟨b.val * 512 + s.val, by omega⟩ d)
      = (m ((c : Thread nD τ).loc main_arg0) : Vec Ideal S2x512x5120 .bf16) (ix3 b s d) := fun d => by
    rw [V_main_v3]; exact tokens_apply _ b s d _ rfl
  have hW : ∀ d : Fin 2560, _ := fun d => iblk_1 m c (pointOf n) d ⟨n.val % 512, Nat.mod_lt _ (by decide)⟩ n hp
  have hA : ∀ d : Fin 80, _ := fun d => iblk_2 m c (pointOf n) d ⟨n.val % 512, Nat.mod_lt _ (by decide)⟩ n hp
  have hB : ∀ d : Fin 16, _ := fun d => iblk_4 m c (pointOf n) d ⟨n.val % 512, Nat.mod_lt _ (by decide)⟩ n hp
  simp only [proj_apply, hT, hX, hW, hA, hB]
  rw [V_main_arg1, V_main_arg2, V_main_arg3, V_main_arg4]
  unfold spec
  rw [add_assoc, add_comm]

end Cert.KernelIdeal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference's run leaves its arguments unchanged, and it has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both runs end at the kernel's returned array: entry by entry the reference's result is the same extended real. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun r h c => ⟨(h c).1.trans ?_, (h c).2⟩) (Cert.ReferenceIdeal.Value.run (F := Ideal) m' ρ')
  obtain ⟨h0, h1, h2, h3, h4⟩ := hagree c
  show Cert.ReferenceIdeal.Read.result (StableHlo.launchContents m' c) = (Cert.KernelIdeal.Whole.result m c : Vec Ideal Cert.KernelIdeal.S2x512x5120 .bf16)
  funext i
  rw [← ix3_eta i]
  refine (Cert.ReferenceIdeal.Read.result_apply _ _ _ _).trans (Eq.trans ?_ (Cert.KernelIdeal.Whole.result_apply m c _ _ _).symm)
  exact Cert.ReferenceIdeal.Read.spec_congr h0 h1 h2 h3 h4 _ _ _

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ri, trivial, algebraic⟩

end Cert.Proof

end
